-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![12288, 768]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S12288x1536 : Shape := ⟨2, ![12288, 1536]⟩
abbrev S5x1536x768 : Shape := ⟨3, ![5, 1536, 768]⟩
abbrev S4x1536x768 : Shape := ⟨3, ![4, 1536, 768]⟩
abbrev S2x1536x1536 : Shape := ⟨3, ![2, 1536, 1536]⟩
abbrev S16 : Shape := ⟨1, ![16]⟩
abbrev S12 : Shape := ⟨1, ![12]⟩
abbrev S_ : Shape := ⟨0, ![]⟩
abbrev S384x768 : Shape := ⟨2, ![384, 768]⟩
abbrev S1x384x768 : Shape := ⟨3, ![1, 384, 768]⟩
abbrev S1 : Shape := ⟨1, ![1]⟩
abbrev S1x1536x768 : Shape := ⟨3, ![1, 1536, 768]⟩
abbrev S1536x1536 : Shape := ⟨2, ![1536, 1536]⟩
abbrev S1x1536x1536 : Shape := ⟨3, ![1, 1536, 1536]⟩
abbrev S384x1536 : Shape := ⟨2, ![384, 1536]⟩
abbrev S1x384x1536 : Shape := ⟨3, ![1, 384, 1536]⟩

abbrev nBuf : Space → Nat
  | .hbm => 3
  | .vmem => 6
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S12288x1536, .f32⟩
  | .local _ .vmem, ⟨0, _⟩ => ⟨S1536x768, .f32⟩
  | .local _ .vmem, ⟨1, _⟩ => ⟨S768x1536, .f32⟩
  | .local _ .vmem, ⟨2, _⟩ => ⟨S5x1536x768, .i8⟩
  | .local _ .vmem, ⟨3, _⟩ => ⟨S4x1536x768, .i8⟩
  | .local _ .vmem, ⟨4, _⟩ => ⟨S768x1536, .bf16⟩
  | .local _ .vmem, ⟨5, _⟩ => ⟨S2x1536x1536, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_10 : BitVec 32 := 1#32
  let v18 : BitVec 32 := Scalar.muli v16 c1_i32_10
  let v19 : BitVec 32 := Scalar.addi c0_i32 v18
  v19.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_12 : BitVec 32 := 1#32
  let v20 : BitVec 32 := Scalar.muli v10 c1_i32_12
  let v21 : BitVec 32 := Scalar.addi c0_i32_13 v20
  v21.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_24 : BitVec 32 := 1#32
  let v35 : BitVec 32 := Scalar.muli v10 c1_i32_24
  let v36 : BitVec 32 := Scalar.addi c0_i32_25 v35
  v36.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_34 : BitVec 32 := 1#32
  let v45 : BitVec 32 := Scalar.muli v16 c1_i32_34
  let v46 : BitVec 32 := Scalar.addi c0_i32_35 v45
  v46.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_51 : BitVec 32 := 1#32
  let v68 : BitVec 32 := Scalar.muli v10 c1_i32_51
  let v69 : BitVec 32 := Scalar.addi c0_i32_52 v68
  v69.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_60 : BitVec 32 := 1#32
  let v78 : BitVec 32 := Scalar.muli v16 c1_i32_60
  let v79 : BitVec 32 := Scalar.addi c0_i32_61 v78
  v79.toNat
def k0_dev7 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_77 : BitVec 32 := 1#32
  let v101 : BitVec 32 := Scalar.muli v10 c1_i32_77
  let v102 : BitVec 32 := Scalar.addi c0_i32_78 v101
  v102.toNat
def k0_dev8 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_86 : BitVec 32 := 1#32
  let v111 : BitVec 32 := Scalar.muli v16 c1_i32_86
  let v112 : BitVec 32 := Scalar.addi c0_i32_87 v111
  v112.toNat
def k0_dev9 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_102 : BitVec 32 := 1#32
  let v134 : BitVec 32 := Scalar.muli v10 c1_i32_102
  let v135 : BitVec 32 := Scalar.addi c0_i32_103 v134
  v135.toNat
def k0_dev10 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_111 : BitVec 32 := 1#32
  let v144 : BitVec 32 := Scalar.muli v16 c1_i32_111
  let v145 : BitVec 32 := Scalar.addi c0_i32_112 v144
  v145.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1536_i32 : BitVec 32 := 1536#32
  let v170 : BitVec 32 := Scalar.muli v2 c1536_i32
  let c0_i32_133 : BitVec 32 := 0#32
  ![v170.toNat, 0]
def k0_dev11 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_150 : BitVec 32 := 1#32
  let v184 : BitVec 32 := Scalar.muli v10 c1_i32_150
  let v185 : BitVec 32 := Scalar.addi c0_i32_151 v184
  v185.toNat
def k0_dev12 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_170 : BitVec 32 := 1#32
  let v202 : BitVec 32 := Scalar.muli v16 c1_i32_170
  let v203 : BitVec 32 := Scalar.addi c0_i32_171 v202
  v203.toNat
def k0_dev13 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_189 : BitVec 32 := 1#32
  let v220 : BitVec 32 := Scalar.muli v10 c1_i32_189
  let v221 : BitVec 32 := Scalar.addi c0_i32_190 v220
  v221.toNat
def k0_dev14 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_209 : BitVec 32 := 1#32
  let v238 : BitVec 32 := Scalar.muli v16 c1_i32_209
  let v239 : BitVec 32 := Scalar.addi c0_i32_210 v238
  v239.toNat
def k0_dev15 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_228 : BitVec 32 := 1#32
  let v256 : BitVec 32 := Scalar.muli v10 c1_i32_228
  let v257 : BitVec 32 := Scalar.addi c0_i32_229 v256
  v257.toNat
def k0_dev16 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_248 : BitVec 32 := 1#32
  let v274 : BitVec 32 := Scalar.muli v16 c1_i32_248
  let v275 : BitVec 32 := Scalar.addi c0_i32_249 v274
  v275.toNat
def k0_dev17 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_267 : BitVec 32 := 1#32
  let v292 : BitVec 32 := Scalar.muli v10 c1_i32_267
  let v293 : BitVec 32 := Scalar.addi c0_i32_268 v292
  v293.toNat
def k0_dev18 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_287 : BitVec 32 := 1#32
  let v310 : BitVec 32 := Scalar.muli v16 c1_i32_287
  let v311 : BitVec 32 := Scalar.addi c0_i32_288 v310
  v311.toNat
def k0_off2 (d0 : Dev nD) (c1_i32_293 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v320 : BitVec 32 := Scalar.subi v5 c1_i32_293
  let c8_i32_294 : BitVec 32 := 8#32
  let v321 : BitVec 32 := Scalar.addi v320 c8_i32_294
  let c8_i32_295 : BitVec 32 := 8#32
  let v322 : BitVec 32 := Scalar.remsi v321 c8_i32_295
  let c4_i32_296 : BitVec 32 := 4#32
  let v323 : BitVec 1 := Scalar.cmpi .slt v322 c4_i32_296
  let c11_i32_297 : BitVec 32 := 11#32
  let v324 : BitVec 32 := Scalar.subi c11_i32_297 v322
  let v325 : BitVec 32 := Scalar.select v323 v322 v324
  let c1536_i32_306 : BitVec 32 := 1536#32
  let v334 : BitVec 32 := Scalar.muli v325 c1536_i32_306
  let c0_i32_309 : BitVec 32 := 0#32
  ![v334.toNat, 0]
def k0_off3 (d0 : Dev nD) (c1_i32_312 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v340 : BitVec 32 := Scalar.addi v5 c1_i32_312
  let c8_i32_313 : BitVec 32 := 8#32
  let v341 : BitVec 32 := Scalar.remsi v340 c8_i32_313
  let c4_i32_314 : BitVec 32 := 4#32
  let v342 : BitVec 1 := Scalar.cmpi .slt v341 c4_i32_314
  let c11_i32_315 : BitVec 32 := 11#32
  let v343 : BitVec 32 := Scalar.subi c11_i32_315 v341
  let v344 : BitVec 32 := Scalar.select v342 v341 v343
  let c1536_i32_330 : BitVec 32 := 1536#32
  let v358 : BitVec 32 := Scalar.muli v344 c1536_i32_330
  let c0_i32_333 : BitVec 32 := 0#32
  ![v358.toNat, 0]
def k0_dev19 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_350 : BitVec 32 := 1#32
  let v372 : BitVec 32 := Scalar.muli v10 c1_i32_350
  let v373 : BitVec 32 := Scalar.addi c0_i32_351 v372
  v373.toNat
def k0_dev20 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_370 : BitVec 32 := 1#32
  let v390 : BitVec 32 := Scalar.muli v16 c1_i32_370
  let v391 : BitVec 32 := Scalar.addi c0_i32_371 v390
  v391.toNat
def k0_dev21 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_389 : BitVec 32 := 1#32
  let v408 : BitVec 32 := Scalar.muli v10 c1_i32_389
  let v409 : BitVec 32 := Scalar.addi c0_i32_390 v408
  v409.toNat
def k0_dev22 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_409 : BitVec 32 := 1#32
  let v426 : BitVec 32 := Scalar.muli v16 c1_i32_409
  let v427 : BitVec 32 := Scalar.addi c0_i32_410 v426
  v427.toNat
def k0_dev23 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_428 : BitVec 32 := 1#32
  let v444 : BitVec 32 := Scalar.muli v10 c1_i32_428
  let v445 : BitVec 32 := Scalar.addi c0_i32_429 v444
  v445.toNat
def k0_dev24 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_448 : BitVec 32 := 1#32
  let v462 : BitVec 32 := Scalar.muli v16 c1_i32_448
  let v463 : BitVec 32 := Scalar.addi c0_i32_449 v462
  v463.toNat
def k0_dev25 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_468 : BitVec 32 := 1#32
  let v480 : BitVec 32 := Scalar.muli v10 c1_i32_468
  let v481 : BitVec 32 := Scalar.addi c0_i32_469 v480
  v481.toNat
def k0_dev26 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_488 : BitVec 32 := 1#32
  let v498 : BitVec 32 := Scalar.muli v16 c1_i32_488
  let v499 : BitVec 32 := Scalar.addi c0_i32_489 v498
  v499.toNat
def k0_dev27 (d0 : Dev nD) : Nat :=
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_555 : BitVec 32 := 1#32
  let v565 : BitVec 32 := Scalar.muli v10 c1_i32_555
  let v566 : BitVec 32 := Scalar.addi c0_i32_556 v565
  v566.toNat
def k0_dev28 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_584 : BitVec 32 := 1#32
  let v591 : BitVec 32 := Scalar.muli v10 c1_i32_584
  let v592 : BitVec 32 := Scalar.addi c0_i32_585 v591
  v592.toNat
def k0_dev29 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_613 : BitVec 32 := 1#32
  let v617 : BitVec 32 := Scalar.muli v10 c1_i32_613
  let v618 : BitVec 32 := Scalar.addi c0_i32_614 v617
  v618.toNat
def k0_dev30 (d0 : Dev nD) : Nat :=
  let c0_i32_643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_642 : BitVec 32 := 1#32
  let v643 : BitVec 32 := Scalar.muli v10 c1_i32_642
  let v644 : BitVec 32 := Scalar.addi c0_i32_643 v643
  v644.toNat
def k0_off4 (d0 : Dev nD) (c0_i32_735 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_706 : BitVec 32 := 4#32
  let v710 : BitVec 32 := Scalar.subi v5 c4_i32_706
  let c8_i32_707 : BitVec 32 := 8#32
  let v711 : BitVec 32 := Scalar.addi v710 c8_i32_707
  let c8_i32_708 : BitVec 32 := 8#32
  let v712 : BitVec 32 := Scalar.remsi v711 c8_i32_708
  let c4_i32_709 : BitVec 32 := 4#32
  let v713 : BitVec 1 := Scalar.cmpi .slt v712 c4_i32_709
  let c11_i32_710 : BitVec 32 := 11#32
  let v714 : BitVec 32 := Scalar.subi c11_i32_710 v712
  let v715 : BitVec 32 := Scalar.select v713 v712 v714
  let c1536_i32_734 : BitVec 32 := 1536#32
  let v737 : BitVec 32 := Scalar.muli v715 c1536_i32_734
  let v738 : BitVec 32 := Scalar.addi v737 c0_i32_735
  let c0_i32_738 : BitVec 32 := 0#32
  ![v738.toNat, 0]
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S12288x768 : Shape := ⟨2, ![12288, 768]⟩
abbrev S768x1536 : Shape := ⟨2, ![768, 1536]⟩
abbrev S_ : Shape := ⟨0, ![]⟩
abbrev S12288x1536 : Shape := ⟨2, ![12288, 1536]⟩

abbrev nBuf : Space → Nat
  | .hbm => 18
  | .vmem => 0
  | .smem => 0
  | _ => 0

abbrev bufTy : (tb : Table) → Fin (tcTables nBuf tb) → BufTy
  | .hbm, ⟨0, _⟩ => ⟨S12288x768, .f32⟩
  | .hbm, ⟨1, _⟩ => ⟨S768x1536, .f32⟩
  | .hbm, ⟨2, _⟩ => ⟨S_, .f32⟩
  | .hbm, ⟨3, _⟩ => ⟨S12288x768, .f32⟩
  | .hbm, ⟨4, _⟩ => ⟨S12288x768, .f32⟩
  | .hbm, ⟨5, _⟩ => ⟨S12288x768, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S12288x768, .f32⟩
  | .hbm, ⟨10, _⟩ => ⟨S12288x768, .f32⟩
  | .hbm, ⟨11, _⟩ => ⟨S_, .f32⟩
  | .hbm, ⟨12, _⟩ => ⟨S12288x768, .f32⟩
  | .hbm, ⟨13, _⟩ => ⟨S12288x768, .f32⟩
  | .hbm, ⟨14, _⟩ => ⟨S_, .f32⟩
  | .hbm, ⟨15, _⟩ => ⟨S12288x768, .f32⟩
  | .hbm, ⟨16, _⟩ => ⟨S12288x768, .f32⟩
  | .hbm, ⟨17, _⟩ => ⟨S12288x1536, .f32⟩
  | _, _ => ⟨S12288x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_cst_1 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Ring.lean ====
/- The ring of eight devices, the buffers' pieces and the semaphores, named once for the whole proof. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.Gather

open Cert.KernelIdeal Cert.KernelIdeal.Gen
open Idealize.ShloMosaic
open Idealize.ShloMosaic.TcCoe
open Idealize.ShloMosaic.ValueIdx

/-! ## The ring: 0, 1, 2, 3, 7, 6, 5, 4 -/

/-- A device's place in the ring, and the device at a place: the same involution on `Fin 8`. -/
def sg (p : ℕ) : ℕ := if p < 4 then p else 11 - p

set_option backward.proofsInPublic true in
def right (c : Dev nD) : Dev nD := ⟨sg ((sg c.val + 1) % 8), by revert c; decide⟩
set_option backward.proofsInPublic true in
def left (c : Dev nD) : Dev nD := ⟨sg ((sg c.val + 7) % 8), by revert c; decide⟩

theorem left_right (c : Dev nD) : left (right c) = c := by revert c; decide
theorem right_left (c : Dev nD) : right (left c) = c := by revert c; decide
theorem right_ne_left (c : Dev nD) : right c ≠ left c := by revert c; decide

def ring : Dev nD ≃ Dev nD := ⟨right, left, left_right, right_left⟩

/-- The device whose rows the `i`-th of the seven whole-block products multiplies: own rows first, then one hop to the
    left, one to the right, two to the left and so on. -/
def org (i : ℕ) (c : Dev nD) : Dev nD := if i % 2 = 1 then left^[(i + 1) / 2] c else right^[i / 2] c
/-- The device opposite: four hops away. -/
def opp (c : Dev nD) : Dev nD := left^[4] c

theorem org_ne_opp : ∀ (i : Fin 7) (c : Dev nD), org i.val c ≠ opp c := by decide
theorem org_inj : ∀ (c : Dev nD) (i j : Fin 7), org i.val c = org j.val c → i = j := by decide
theorem org_cover : ∀ (c o : Dev nD), o = opp c ∨ ∃ i : Fin 7, o = org i.val c := by decide

/-! ## The buffers -/

abbrev aM : Memref sig .tc .vmem S1536x768 .f32 := Memref.whole cc0_stg0_0
abbrev bM : Memref sig .tc .vmem S768x1536 .f32 := Memref.whole cc0_stg1_0
abbrev oM : Memref sig .tc .hbm S12288x1536 .f32 := Memref.whole main_v1
abbrev rM : Memref sig .tc .vmem S5x1536x768 .i8 := Memref.whole cc0_scratch0
abbrev lM : Memref sig .tc .vmem S4x1536x768 .i8 := Memref.whole cc0_scratch1
abbrev bbM : Memref sig .tc .vmem S768x1536 .bf16 := Memref.whole cc0_scratch2
abbrev cM : Memref sig .tc .vmem S2x1536x1536 .f32 := Memref.whole cc0_scratch3

theorem inbR (n : Fin 20) : ∀ a, (![n.val / 4, 384 * (n.val % 4), 0] : Fin 3 → Nat) a + S1x384x768.size a ≤ S5x1536x768.size a := by
  revert n; decide
theorem inbL (n : Fin 16) : ∀ a, (![n.val / 4, 384 * (n.val % 4), 0] : Fin 3 → Nat) a + S1x384x768.size a ≤ S4x1536x768.size a := by
  revert n; decide
theorem inbC (p : Fin 2) : ∀ a, (![p.val, 0, 0] : Fin 3 → Nat) a + S1x1536x1536.size a ≤ S2x1536x1536.size a := by revert p; decide
theorem inbS (p : Fin 4) : ∀ a, (![1, 384 * p.val, 0] : Fin 3 → Nat) a + S1x384x1536.size a ≤ S2x1536x1536.size a := by revert p; decide
theorem inbO (o : Dev nD) : ∀ a, (![1536 * o.val, 0] : Fin 2 → Nat) a + S1536x1536.size a ≤ S12288x1536.size a := by revert o; decide
theorem inbP (o : Dev nD) (p : Fin 4) : ∀ a, (![1536 * o.val + 384 * p.val, 0] : Fin 2 → Nat) a + S384x1536.size a ≤ S12288x1536.size a := by
  revert o p; decide

abbrev rR (n : Fin 20) : Rect S5x1536x768 := Rect.unit (s := S5x1536x768) ![n.val / 4, 384 * (n.val % 4), 0] S1x384x768.size (inbR n)
abbrev lR (n : Fin 16) : Rect S4x1536x768 := Rect.unit (s := S4x1536x768) ![n.val / 4, 384 * (n.val % 4), 0] S1x384x768.size (inbL n)
abbrev cR (p : Fin 2) : Rect S2x1536x1536 := Rect.unit (s := S2x1536x1536) ![p.val, 0, 0] S1x1536x1536.size (inbC p)
abbrev sR (p : Fin 4) : Rect S2x1536x1536 := Rect.unit (s := S2x1536x1536) ![1, 384 * p.val, 0] S1x384x1536.size (inbS p)
abbrev oR (o : Dev nD) : Rect S12288x1536 := Rect.unit (s := S12288x1536) ![1536 * o.val, 0] S1536x1536.size (inbO o)
abbrev pR (o : Dev nD) (p : Fin 4) : Rect S12288x1536 := Rect.unit (s := S12288x1536) ![1536 * o.val + 384 * p.val, 0] S384x1536.size (inbP o p)

/-- Piece `n` of the buffer that receives from the left: slot `n / 4`, rows from `384 * (n % 4)`. -/
abbrev rP (n : Fin 20) : Memref sig .tc .vmem S384x768 .i8 := (rM.slice (rR n) (fun _ => rfl)).squeeze S384x768 squeezes_S1x384x768_S384x768
/-- Piece `n` of the buffer that receives from the right. -/
abbrev lP (n : Fin 16) : Memref sig .tc .vmem S384x768 .i8 := (lM.slice (lR n) (fun _ => rfl)).squeeze S384x768 squeezes_S1x384x768_S384x768
/-- A slot of the product buffer, -/
abbrev cP (p : Fin 2) : Memref sig .tc .vmem S1536x1536 .f32 := (cM.slice (cR p) (fun _ => rfl)).squeeze S1536x1536 squeezes_S1x1536x1536_S1536x1536
/-- a quarter of its second slot, -/
abbrev sP (p : Fin 4) : Memref sig .tc .vmem S384x1536 .f32 := (cM.slice (sR p) (fun _ => rfl)).squeeze S384x1536 squeezes_S1x384x1536_S384x1536
/-- a device's block of the result, -/
abbrev oP (o : Dev nD) : Memref sig .tc .hbm S1536x1536 .f32 := oM.slice (oR o) (fun _ => rfl)
/-- and a quarter of one. -/
abbrev pP (o : Dev nD) (p : Fin 4) : Memref sig .tc .hbm S384x1536 .f32 := oM.slice (pR o p) (fun _ => rfl)

/-- Slot `h` of the buffer that receives from the left, all its rows; and of the one that receives from the right. -/
theorem inbRS (h : Fin 5) : ∀ a, (![h.val, 0, 0] : Fin 3 → Nat) a + S1x1536x768.size a ≤ S5x1536x768.size a := by revert h; decide
theorem inbLS (h : Fin 4) : ∀ a, (![h.val, 0, 0] : Fin 3 → Nat) a + S1x1536x768.size a ≤ S4x1536x768.size a := by revert h; decide
theorem inbA (j : Fin 4) : ∀ a, (![384 * j.val, 0] : Fin 2 → Nat) a + S384x768.size a ≤ S1536x768.size a := by revert j; decide
abbrev rS (h : Fin 5) : Rect S5x1536x768 := Rect.unit (s := S5x1536x768) ![h.val, 0, 0] S1x1536x768.size (inbRS h)
abbrev lS (h : Fin 4) : Rect S4x1536x768 := Rect.unit (s := S4x1536x768) ![h.val, 0, 0] S1x1536x768.size (inbLS h)
abbrev aR (j : Fin 4) : Rect S1536x768 := Rect.unit (s := S1536x768) ![384 * j.val, 0] S384x768.size (inbA j)

/-! ## Where a piece's elements lie -/

theorem rP_set (n : Fin 20) : (rP n).view.set = (rR n).set := (View.set_reshape _ _).trans (View.set_slice_whole _ _)
theorem lP_set (n : Fin 16) : (lP n).view.set = (lR n).set := (View.set_reshape _ _).trans (View.set_slice_whole _ _)
theorem cP_set (p : Fin 2) : (cP p).view.set = (cR p).set := (View.set_reshape _ _).trans (View.set_slice_whole _ _)
theorem sP_set (p : Fin 4) : (sP p).view.set = (sR p).set := (View.set_reshape _ _).trans (View.set_slice_whole _ _)
theorem oP_set (o : Dev nD) : (oP o).view.set = (oR o).set := View.set_slice_whole _ _
theorem pP_set (o : Dev nD) (p : Fin 4) : (pP o p).view.set = (pR o p).set := View.set_slice_whole _ _

theorem mem3 {d e f : ℕ} {off size : Fin 3 → ℕ} {inb} {i : (⟨3, ![d, e, f]⟩ : Shape).Idx} :
    i ∈ (Rect.unit (s := ⟨3, ![d, e, f]⟩) off size inb).set ↔ (off 0 ≤ (i 0).val ∧ (i 0).val < off 0 + size 0)
      ∧ (off 1 ≤ (i 1).val ∧ (i 1).val < off 1 + size 1) ∧ (off 2 ≤ (i 2).val ∧ (i 2).val < off 2 + size 2) := by
  rw [Rect.mem_set_unit, Fin.forall_fin_succ, Fin.forall_fin_succ, Fin.forall_fin_succ]
  exact ⟨fun h => ⟨h.1, h.2.1, h.2.2.1⟩, fun h => ⟨h.1, h.2.1, h.2.2, fun x => x.elim0⟩⟩
theorem mem2 {d e : ℕ} {off size : Fin 2 → ℕ} {inb} {i : (⟨2, ![d, e]⟩ : Shape).Idx} :
    i ∈ (Rect.unit (s := ⟨2, ![d, e]⟩) off size inb).set ↔ (off 0 ≤ (i 0).val ∧ (i 0).val < off 0 + size 0)
      ∧ (off 1 ≤ (i 1).val ∧ (i 1).val < off 1 + size 1) := by
  rw [Rect.mem_set_unit, Fin.forall_fin_succ, Fin.forall_fin_succ]
  exact ⟨fun h => ⟨h.1, h.2.1⟩, fun h => ⟨h.1, h.2, fun x => x.elim0⟩⟩

theorem mem_rR (n : Fin 20) (i : S5x1536x768.Idx) :
    i ∈ (rR n).set ↔ (i 0).val = n.val / 4 ∧ 384 * (n.val % 4) ≤ (i 1).val ∧ (i 1).val < 384 * (n.val % 4) + 384 := by
  have h2 : (i 2).val < 768 := (i 2).isLt
  refine mem3.trans ?_
  show (n.val / 4 ≤ (i 0).val ∧ (i 0).val < n.val / 4 + 1) ∧ (384 * (n.val % 4) ≤ (i 1).val ∧ (i 1).val < 384 * (n.val % 4) + 384)
    ∧ (0 ≤ (i 2).val ∧ (i 2).val < 0 + 768) ↔ _
  omega
theorem mem_lR (n : Fin 16) (i : S4x1536x768.Idx) :
    i ∈ (lR n).set ↔ (i 0).val = n.val / 4 ∧ 384 * (n.val % 4) ≤ (i 1).val ∧ (i 1).val < 384 * (n.val % 4) + 384 := by
  have h2 : (i 2).val < 768 := (i 2).isLt
  refine mem3.trans ?_
  show (n.val / 4 ≤ (i 0).val ∧ (i 0).val < n.val / 4 + 1) ∧ (384 * (n.val % 4) ≤ (i 1).val ∧ (i 1).val < 384 * (n.val % 4) + 384)
    ∧ (0 ≤ (i 2).val ∧ (i 2).val < 0 + 768) ↔ _
  omega
theorem mem_rS (h : Fin 5) (i : S5x1536x768.Idx) : i ∈ (rS h).set ↔ (i 0).val = h.val := by
  have h1 : (i 1).val < 1536 := (i 1).isLt
  have h2 : (i 2).val < 768 := (i 2).isLt
  refine mem3.trans ?_
  show (h.val ≤ (i 0).val ∧ (i 0).val < h.val + 1) ∧ (0 ≤ (i 1).val ∧ (i 1).val < 0 + 1536) ∧ (0 ≤ (i 2).val ∧ (i 2).val < 0 + 768) ↔ _
  omega
theorem mem_lS (h : Fin 4) (i : S4x1536x768.Idx) : i ∈ (lS h).set ↔ (i 0).val = h.val := by
  have h1 : (i 1).val < 1536 := (i 1).isLt
  have h2 : (i 2).val < 768 := (i 2).isLt
  refine mem3.trans ?_
  show (h.val ≤ (i 0).val ∧ (i 0).val < h.val + 1) ∧ (0 ≤ (i 1).val ∧ (i 1).val < 0 + 1536) ∧ (0 ≤ (i 2).val ∧ (i 2).val < 0 + 768) ↔ _
  omega
theorem mem_cR (p : Fin 2) (i : S2x1536x1536.Idx) : i ∈ (cR p).set ↔ (i 0).val = p.val := by
  have h1 : (i 1).val < 1536 := (i 1).isLt
  have h2 : (i 2).val < 1536 := (i 2).isLt
  refine mem3.trans ?_
  show (p.val ≤ (i 0).val ∧ (i 0).val < p.val + 1) ∧ (0 ≤ (i 1).val ∧ (i 1).val < 0 + 1536) ∧ (0 ≤ (i 2).val ∧ (i 2).val < 0 + 1536) ↔ _
  omega
theorem mem_sR (p : Fin 4) (i : S2x1536x1536.Idx) :
    i ∈ (sR p).set ↔ (i 0).val = 1 ∧ 384 * p.val ≤ (i 1).val ∧ (i 1).val < 384 * p.val + 384 := by
  have h2 : (i 2).val < 1536 := (i 2).isLt
  refine mem3.trans ?_
  show (1 ≤ (i 0).val ∧ (i 0).val < 1 + 1) ∧ (384 * p.val ≤ (i 1).val ∧ (i 1).val < 384 * p.val + 384) ∧ (0 ≤ (i 2).val ∧ (i 2).val < 0 + 1536) ↔ _
  omega
theorem mem_oR (o : Dev nD) (i : S12288x1536.Idx) : i ∈ (oR o).set ↔ 1536 * o.val ≤ (i 0).val ∧ (i 0).val < 1536 * o.val + 1536 := by
  have h2 : (i 1).val < 1536 := (i 1).isLt
  refine mem2.trans ?_
  show (1536 * o.val ≤ (i 0).val ∧ (i 0).val < 1536 * o.val + 1536) ∧ (0 ≤ (i 1).val ∧ (i 1).val < 0 + 1536) ↔ _
  omega
theorem mem_pR (o : Dev nD) (p : Fin 4) (i : S12288x1536.Idx) :
    i ∈ (pR o p).set ↔ 1536 * o.val + 384 * p.val ≤ (i 0).val ∧ (i 0).val < 1536 * o.val + 384 * p.val + 384 := by
  have h2 : (i 1).val < 1536 := (i 1).isLt
  refine mem2.trans ?_
  show (1536 * o.val + 384 * p.val ≤ (i 0).val ∧ (i 0).val < 1536 * o.val + 384 * p.val + 384) ∧ (0 ≤ (i 1).val ∧ (i 1).val < 0 + 1536) ↔ _
  omega

/-! A piece's element in its buffer, coordinate by coordinate. -/

theorem unit3_emb {d e f a b : ℕ} {off : Fin 3 → ℕ} {inb}
    (h : (⟨2, ![a, b]⟩ : Shape).numel = (⟨3, ![1, a, b]⟩ : Shape).numel) (x : (⟨2, ![a, b]⟩ : Shape).Idx) :
    let i := (Rect.unit (s := ⟨3, ![d, e, f]⟩) off (⟨3, ![1, a, b]⟩ : Shape).size inb).emb (Shape.reshapeEquiv h x)
    (i 0).val = off 0 ∧ (i 1).val = off 1 + (x 0).val ∧ (i 2).val = off 2 + (x 1).val := by
  have hx : Shape.reshapeEquiv h x = ix3 (⟨0, Nat.one_pos⟩ : Fin 1) (x 0) (x 1) := by
    conv_lhs => rw [eq_ix2 x]
    exact reshapeEquiv_ix2_1ab h (x 0) (x 1)
  intro i
  have hi : i = (Rect.unit (s := ⟨3, ![d, e, f]⟩) off (⟨3, ![1, a, b]⟩ : Shape).size inb).emb (ix3 (⟨0, Nat.one_pos⟩ : Fin 1) (x 0) (x 1)) :=
    congrArg (Rect.unit (s := ⟨3, ![d, e, f]⟩) off (⟨3, ![1, a, b]⟩ : Shape).size inb).emb hx
  rw [hi]
  refine ⟨?_, ?_, ?_⟩
  · show off 0 + 1 * 0 = off 0; omega
  · show off 1 + 1 * (x 0).val = _; omega
  · show off 2 + 1 * (x 1).val = _; omega

theorem rP_emb (n : Fin 20) (x : S384x768.Idx) : ((((rP n).view.emb x : S5x1536x768.Idx) 0).val = n.val / 4)
    ∧ ((((rP n).view.emb x : S5x1536x768.Idx) 1).val = 384 * (n.val % 4) + (x 0).val)
    ∧ ((((rP n).view.emb x : S5x1536x768.Idx) 2).val = 0 + (x 1).val) := unit3_emb (inb := inbR n) _ x
theorem lP_emb (n : Fin 16) (x : S384x768.Idx) : ((((lP n).view.emb x : S4x1536x768.Idx) 0).val = n.val / 4)
    ∧ ((((lP n).view.emb x : S4x1536x768.Idx) 1).val = 384 * (n.val % 4) + (x 0).val)
    ∧ ((((lP n).view.emb x : S4x1536x768.Idx) 2).val = 0 + (x 1).val) := unit3_emb (inb := inbL n) _ x
theorem cP_emb (p : Fin 2) (x : S1536x1536.Idx) : ((((cP p).view.emb x : S2x1536x1536.Idx) 0).val = p.val)
    ∧ ((((cP p).view.emb x : S2x1536x1536.Idx) 1).val = 0 + (x 0).val)
    ∧ ((((cP p).view.emb x : S2x1536x1536.Idx) 2).val = 0 + (x 1).val) := unit3_emb (inb := inbC p) _ x
theorem sP_emb (p : Fin 4) (x : S384x1536.Idx) : ((((sP p).view.emb x : S2x1536x1536.Idx) 0).val = 1)
    ∧ ((((sP p).view.emb x : S2x1536x1536.Idx) 1).val = 384 * p.val + (x 0).val)
    ∧ ((((sP p).view.emb x : S2x1536x1536.Idx) 2).val = 0 + (x 1).val) := unit3_emb (inb := inbS p) _ x
theorem oP_emb (o : Dev nD) (x : S1536x1536.Idx) : ((((oP o).view.emb x : S12288x1536.Idx) 0).val = 1536 * o.val + (x 0).val)
    ∧ ((((oP o).view.emb x : S12288x1536.Idx) 1).val = 0 + (x 1).val) :=
  ⟨by show 1536 * o.val + 1 * (x 0).val = _; omega, by show 0 + 1 * (x 1).val = _; omega⟩
theorem pP_emb (o : Dev nD) (p : Fin 4) (x : S384x1536.Idx) :
    ((((pP o p).view.emb x : S12288x1536.Idx) 0).val = 1536 * o.val + 384 * p.val + (x 0).val)
    ∧ ((((pP o p).view.emb x : S12288x1536.Idx) 1).val = 0 + (x 1).val) :=
  ⟨by show 1536 * o.val + 384 * p.val + 1 * (x 0).val = _; omega, by show 0 + 1 * (x 1).val = _; omega⟩

/-! Which piece a transfer reads and which it fills: the `t`-th send reads piece `t` and fills piece `t + 4`. -/

abbrev src (t : Fin 16) : Fin 20 := ⟨t.val, by omega⟩
abbrev nx (t : Fin 16) : Fin 20 := ⟨t.val + 4, by omega⟩
abbrev lsrc (t : Fin 12) : Fin 16 := ⟨t.val, by omega⟩
abbrev lnx (t : Fin 12) : Fin 16 := ⟨t.val + 4, by omega⟩
/-- The first four of each family. -/
abbrev fst20 (j : Fin 4) : Fin 20 := ⟨j.val, by omega⟩
abbrev fst12 (j : Fin 4) : Fin 12 := ⟨j.val, by omega⟩
/-- The last four pieces. -/
abbrev lst (p : Fin 4) : Fin 20 := ⟨16 + p.val, by omega⟩

/-! ## The semaphores -/

/-- What a DMA semaphore is for: a staging buffer's, the `t`-th send to the right or its arrival, the `t`-th send to the
    left or its arrival, a copy of a whole block or of a quarter out to the result, or none. -/
inductive Use | stg | rs (t : Fin 16) | rr (t : Fin 16) | ls (t : Fin 12) | lr (t : Fin 12) | cp (i : Fin 7) | sp (p : Fin 4) | none
  deriving DecidableEq

abbrev rsS (t : Fin 16) : DmaSem sig := ⟨2 + t.val, by show _ < 70; omega⟩
abbrev rrS (t : Fin 16) : DmaSem sig := ⟨18 + t.val, by show _ < 70; omega⟩
abbrev lsS (t : Fin 12) : DmaSem sig := ⟨34 + t.val, by show _ < 70; omega⟩
abbrev lrS (t : Fin 12) : DmaSem sig := ⟨46 + t.val, by show _ < 70; omega⟩
abbrev cpS (i : Fin 7) : DmaSem sig := ⟨58 + i.val, by show _ < 70; omega⟩
abbrev spS (p : Fin 4) : DmaSem sig := ⟨65 + p.val, by show _ < 70; omega⟩
abbrev barS : Sem sig := (SemArray.scalar (sig.barrier 0 rfl) : Sems sig S_).sem

set_option backward.proofsInPublic true in
def use (q : DmaSem sig) : Use :=
  if h0 : q.val < 2 then .stg
  else if h1 : q.val < 18 then .rs ⟨q.val - 2, by omega⟩
  else if h2 : q.val < 34 then .rr ⟨q.val - 18, by omega⟩
  else if h3 : q.val < 46 then .ls ⟨q.val - 34, by omega⟩
  else if h4 : q.val < 58 then .lr ⟨q.val - 46, by omega⟩
  else if h5 : q.val < 65 then .cp ⟨q.val - 58, by omega⟩
  else if h6 : q.val < 69 then .sp ⟨q.val - 65, by omega⟩
  else .none

theorem use_rs : ∀ t, use (rsS t) = .rs t := by decide
theorem use_rr : ∀ t, use (rrS t) = .rr t := by decide
theorem use_ls : ∀ t, use (lsS t) = .ls t := by decide
theorem use_lr : ∀ t, use (lrS t) = .lr t := by decide
theorem use_cp : ∀ t, use (cpS t) = .cp t := by decide
theorem use_sp : ∀ t, use (spS t) = .sp t := by decide

/-! The credits: a piece's, a block's, a quarter's. -/

@[irreducible] def N : ℕ := (rP 0).view.dmaCredit
@[irreducible] def NC : ℕ := (oP 0).view.dmaCredit
@[irreducible] def NS : ℕ := (pP 0 0).view.dmaCredit
theorem rP_credit (n : Fin 20) : (rP n).view.dmaCredit = N := by unfold N; rfl
theorem lP_credit (n : Fin 16) : (lP n).view.dmaCredit = N := by unfold N; rfl
theorem oP_credit (o : Dev nD) : (oP o).view.dmaCredit = NC := by unfold NC; rfl
theorem pP_credit (o : Dev nD) (p : Fin 4) : (pP o p).view.dmaCredit = NS := by unfold NS; rfl
theorem N_pos : 0 < N := by rw [← rP_credit 0]; exact View.dmaCredit_pos _ (by decide)
theorem NC_pos : 0 < NC := by rw [← oP_credit 0]; exact View.dmaCredit_pos _ (by decide)
theorem NS_pos : 0 < NS := by rw [← pP_credit 0 0]; exact View.dmaCredit_pos _ (by decide)

/-! The printed names: the devices addressed, and the semaphores and offsets at their literals. -/

theorem dev_left (c : Dev nD) (n : ℕ) (h : n < nD) (e : n = sg ((sg c.val + 7) % 8)) : (⟨n, h⟩ : Dev nD) = left c := Fin.ext e
theorem dev_right (c : Dev nD) (n : ℕ) (h : n < nD) (e : n = sg ((sg c.val + 1) % 8)) : (⟨n, h⟩ : Dev nD) = right c := Fin.ext e

theorem off_own : ∀ c : Dev nD, k0_off1 c = ![1536 * (org 0 c).val, 0] := by decide +kernel
theorem off_left : ∀ (c : Dev nD) (r : Fin 3), k0_off2 c (BitVec.ofNat 32 (1 + r.val)) = ![1536 * (org (2 * r.val + 1) c).val, 0] := by decide +kernel
theorem off_right : ∀ (c : Dev nD) (r : Fin 3), k0_off3 c (BitVec.ofNat 32 (1 + r.val)) = ![1536 * (org (2 * r.val + 2) c).val, 0] := by decide +kernel
theorem off_opp : ∀ (c : Dev nD) (p : Fin 4), k0_off4 c (BitVec.ofNat 32 (384 * p.val)) = ![1536 * (opp c).val + 384 * p.val, 0] := by decide +kernel

end Cert.Gather
end
-- ==== Proof.Contents.lean ====
/- What each buffer holds once it is written: the quantised rows as they travel, and the products. -/
module

public import proofs.«01_k».proof.Proof.Ring

@[expose] public section

noncomputable section

namespace Cert.Gather

open Cert.KernelIdeal Cert.KernelIdeal.Gen
open Idealize.ShloMosaic
open Idealize.ShloMosaic.TcCoe
open Idealize.ShloMosaic.ValueIdx

variable {F : FTy → Type} [FloatOps F]
variable (m : (ℓ : Loc nD τ sig) → Buf (Elt F) ℓ)

/-- Device `c`'s rows of `A`, and its copy of `B`, as staged for the kernel. -/
def aA (c : Dev nD) : Vec F S1536x768 .f32 := (win0_0.blk (0 : Fin 1)).view.read (Elt F) (m ((c : Thread nD τ).loc main_arg0))
def bB (c : Dev nD) : Vec F S768x1536 .f32 := (win0_1.blk (0 : Fin 1)).view.read (Elt F) (m ((c : Thread nD τ).loc main_arg1))

/-- The `j`-th quarter of a device's rows. -/
def aRows (c : Dev nD) (j : Fin 4) : Vec F S384x768 .f32 := aM.view.readAt (Elt F) (aR j).toLoadRect (aA m c)

/-- A quarter's rows quantised: one value, printed four times in different cuts. -/
def qz (v : Vec F S384x768 .f32) : IVec S1x384x768 8 := k0_pay8 v
theorem qz0 (v : Vec F S384x768 .f32) : k0_pay3 (k0_pay1 v) k0_pay2 = qz v := rfl
theorem qz1 (v : Vec F S384x768 .f32) : k0_pay5 (k0_pay4 v) (Scalar.ofBits .f32 0xC2FE0000#32) = qz v := rfl
theorem qz2 (v : Vec F S384x768 .f32) : k0_pay7 (k0_pay6 v) (Scalar.ofBits .f32 0x41B8BA2F#32) = qz v := rfl

/-- A device's quantised entry at a row and a column. -/
def qAt (o : Dev nD) (row : ℕ) (h : row < 1536) (col : Fin 768) : BitVec 8 :=
  qz (aRows m o ⟨row / 384, by omega⟩) (ix3 (0 : Fin 1) (⟨row % 384, Nat.mod_lt _ (by decide)⟩ : Fin 384) col)

/-- What the buffer fed from the left holds: in slot `h` the quantised rows of the device `h` hops to the left. -/
def rBuf (c : Dev nD) : Vec F S5x1536x768 .i8 := fun i => qAt m (left^[(i 0).val] c) (i 1).val (i 1).isLt (i 2)
/-- What the buffer fed from the right holds. -/
def lBuf (c : Dev nD) : Vec F S4x1536x768 .i8 := fun i => qAt m (right^[(i 0).val] c) (i 1).val (i 1).isLt (i 2)

/-- All of a device's quantised rows, and one quarter of them, as loaded. -/
def slab (o : Dev nD) : Vec F S1x1536x768 .i8 := fun i => qAt m o (i 1).val (i 1).isLt (i 2)
def subq (o : Dev nD) (p : Fin 4) : Vec F S1x384x768 .i8 := qz (aRows m o p)

/-- `B` scaled and narrowed. -/
def bb (c : Dev nD) : Vec F S768x1536 .bf16 := k0_pay9 (bB m c)

/-- The product of a device's quantised rows with the scaled `B`, and of a quarter of them. -/
def dotF (q : Vec F S1x1536x768 .i8) (w : Vec F S768x1536 .bf16) : FVec F S1x1536x1536 .f32 := k0_pay10 q w
def dotS (q : Vec F S1x384x768 .i8) (w : Vec F S768x1536 .bf16) : FVec F S1x384x1536 .f32 := k0_pay18 q w
theorem dotF1 (q : Vec F S1x1536x768 .i8) (w : Vec F S768x1536 .bf16) : k0_pay11 q w = dotF q w := rfl
theorem dotF2 (q : Vec F S1x1536x768 .i8) (w : Vec F S768x1536 .bf16) : k0_pay12 q w = dotF q w := rfl
theorem dotF6 (q : Vec F S1x1536x768 .i8) (w : Vec F S768x1536 .bf16) : k0_pay17 (k0_pay16 q) w = dotF q w := rfl
theorem dotS1 (q : Vec F S1x384x768 .i8) (w : Vec F S768x1536 .bf16) : k0_pay19 q w = dotS q w := rfl
theorem dotS2 (q : Vec F S1x384x768 .i8) (w : Vec F S768x1536 .bf16) :
    k0_pay21 (k0_pay20 q) w (constant S384x1536 .f32 0x00000000#32) = dotS q w := rfl

/-- What a slot of the product buffer holds for block `i`, and its second slot for quarter `p` of the last block. -/
def cBuf (c : Dev nD) (i : Fin 7) : Vec F S2x1536x1536 .f32 := fun x => dotF (slab m (org i.val c)) (bb m c) (ix3 (0 : Fin 1) (x 1) (x 2))
def sBuf (c : Dev nD) (p : Fin 4) : Vec F S2x1536x1536 .f32 := fun x =>
  dotS (subq m (opp c) p) (bb m c) (ix3 (0 : Fin 1) (⟨(x 1).val % 384, Nat.mod_lt _ (by decide)⟩ : Fin 384) (x 2))

/-- The result on device `c`. -/
def oFin (c : Dev nD) : Vec F S12288x1536 .f32 := fun x =>
  if (x 0).val / 1536 = (opp c).val then
    dotS (subq m (opp c) ⟨(x 0).val % 1536 / 384, by omega⟩) (bb m c) (ix3 (0 : Fin 1) (⟨(x 0).val % 1536 % 384, Nat.mod_lt _ (by decide)⟩ : Fin 384) (x 1))
  else dotF (slab m ⟨(x 0).val / 1536, by have h : (x 0).val < 12288 := (x 0).isLt; show _ < 8; omega⟩) (bb m c)
    (ix3 (0 : Fin 1) (⟨(x 0).val % 1536, Nat.mod_lt _ (by decide)⟩ : Fin 1536) (x 1))

/-! ## The contents move as the transfers say -/

theorem qAt_congr {o o' : Dev nD} {row row' : ℕ} {h h'} {col col' : Fin 768} (ho : o = o') (hr : row = row') (hc : col.val = col'.val) :
    qAt m o row h col = qAt m o' row' h' col' := by
  have := Fin.ext hc
  subst ho; subst hr; subst this; rfl

/-- A transfer to the right: what lands is what the sender held, one slot on. -/
theorem land_right (c : Dev nD) (t : Fin 16) (fd : Vec F S5x1536x768 .i8) (i : S5x1536x768.Idx)
    (hi : i ∈ (rP (nx t)).view.set) :
    (rP (nx t)).view.write (Elt F) fd ((rP (src t)).view.read (Elt F) (rBuf m c)) Finset.univ i = rBuf m (right c) i := by
  obtain ⟨x, -, rfl⟩ := Finset.mem_map.mp hi
  rw [View.write_emb_of_mem _ _ (Finset.mem_univ x)]
  have e := rP_emb (nx t) x
  have e' := rP_emb (src t) x
  show rBuf m c ((rP (src t)).view.emb x) = rBuf m (right c) ((rP (nx t)).view.emb x)
  refine qAt_congr m ?_ ?_ ?_
  · rw [e.1, e'.1, Nat.add_div_right _ (by decide), Function.iterate_succ_apply, left_right]
  · rw [e.2.1, e'.2.1]; show 384 * (t.val % 4) + _ = 384 * ((t.val + 4) % 4) + _; omega
  · rw [e.2.2, e'.2.2]

/-- A transfer to the left of own rows, from the first slot of the other buffer, -/
theorem land_left0 (c : Dev nD) (t : Fin 4) (fd : Vec F S4x1536x768 .i8) (i : S4x1536x768.Idx)
    (hi : i ∈ (lP (lnx (fst12 t))).view.set) :
    (lP (lnx (fst12 t))).view.write (Elt F) fd ((rP (fst20 t)).view.read (Elt F) (rBuf m c)) Finset.univ i = lBuf m (left c) i := by
  obtain ⟨x, -, rfl⟩ := Finset.mem_map.mp hi
  rw [View.write_emb_of_mem _ _ (Finset.mem_univ x)]
  have e := lP_emb (lnx (fst12 t)) x
  have e' := rP_emb (fst20 t) x
  show rBuf m c ((rP (fst20 t)).view.emb x) = lBuf m (left c) ((lP (lnx (fst12 t))).view.emb x)
  refine qAt_congr m ?_ ?_ ?_
  · rw [e.1, e'.1, Nat.add_div_right _ (by decide), Function.iterate_succ_apply, right_left, Nat.div_eq_of_lt t.isLt]; rfl
  · rw [e.2.1, e'.2.1]; show 384 * (t.val % 4) + _ = 384 * ((t.val + 4) % 4) + _; omega
  · rw [e.2.2, e'.2.2]

/-- and of rows that came from the right. -/
theorem land_left (c : Dev nD) (t : Fin 12) (fd : Vec F S4x1536x768 .i8) (i : S4x1536x768.Idx)
    (hi : i ∈ (lP (lnx t)).view.set) :
    (lP (lnx t)).view.write (Elt F) fd ((lP (lsrc t)).view.read (Elt F) (lBuf m c)) Finset.univ i = lBuf m (left c) i := by
  obtain ⟨x, -, rfl⟩ := Finset.mem_map.mp hi
  rw [View.write_emb_of_mem _ _ (Finset.mem_univ x)]
  have e := lP_emb (lnx t) x
  have e' := lP_emb (lsrc t) x
  show lBuf m c ((lP (lsrc t)).view.emb x) = lBuf m (left c) ((lP (lnx t)).view.emb x)
  refine qAt_congr m ?_ ?_ ?_
  · rw [e.1, e'.1, Nat.add_div_right _ (by decide), Function.iterate_succ_apply, right_left]
  · rw [e.2.1, e'.2.1]; show 384 * (t.val % 4) + _ = 384 * ((t.val + 4) % 4) + _; omega
  · rw [e.2.2, e'.2.2]

/-- The quantised quarter stored is what the first slot is to hold. -/
theorem store_quant (c : Dev nD) (j : Fin 4) (f : Vec F S5x1536x768 .i8) (i : S5x1536x768.Idx)
    (hi : i ∈ (rM.access (rR (fst20 j))).set) :
    (rM.access (rR (fst20 j))).write (Elt F) f (qz (aRows m c j)) Finset.univ i = rBuf m c i := by
  obtain ⟨x, -, rfl⟩ := Finset.mem_map.mp hi
  rw [View.write_emb_of_mem _ _ (Finset.mem_univ x)]
  have e0 : (((rM.access (rR (fst20 j))).emb x : S5x1536x768.Idx) 0).val = j.val / 4 + 1 * (x 0).val := rfl
  have e1 : (((rM.access (rR (fst20 j))).emb x : S5x1536x768.Idx) 1).val = 384 * (j.val % 4) + 1 * (x 1).val := rfl
  have e2 : (((rM.access (rR (fst20 j))).emb x : S5x1536x768.Idx) 2).val = 0 + 1 * (x 2).val := rfl
  have h0 : (x 0).val < 1 := (x 0).isLt
  have h1 : (x 1).val < 384 := (x 1).isLt
  show qz (aRows m c j) x = qAt m (left^[(((rM.access (rR (fst20 j))).emb x : S5x1536x768.Idx) 0).val] c)
    (((rM.access (rR (fst20 j))).emb x : S5x1536x768.Idx) 1).val _ _
  have hz : (((rM.access (rR (fst20 j))).emb x : S5x1536x768.Idx) 0).val = 0 := by rw [e0]; omega
  rw [hz]
  unfold qAt
  congr 1
  · congr 1
    refine Fin.ext ?_
    show j.val = _ / 384
    rw [e1]; omega
  · refine (eq_ix3 x).trans ?_
    congr 1
    · exact Fin.ext (by show (x 0).val = 0; omega)
    · refine Fin.ext ?_; show (x 1).val = _ % 384; rw [e1]; omega
    · refine Fin.ext ?_; show (x 2).val = _; rw [e2]; omega

/-- A slot loaded whole is one device's quantised rows; -/
theorem load_slabR (c : Dev nD) (h : Fin 5) : rM.view.readAt (Elt F) (rS h).toLoadRect (rBuf m c) = slab m (left^[h.val] c) := by
  funext x
  have h0 : (x 0).val < 1 := (x 0).isLt
  show rBuf m c ((rM.access (rS h)).emb x) = slab m (left^[h.val] c) x
  refine qAt_congr m ?_ ?_ ?_
  · have : (((rM.access (rS h)).emb x : S5x1536x768.Idx) 0).val = h.val + 1 * (x 0).val := rfl
    rw [this, show h.val + 1 * (x 0).val = h.val by omega]
  · show 0 + 1 * (x 1).val = _; omega
  · show 0 + 1 * (x 2).val = _; omega
theorem load_slabL (c : Dev nD) (h : Fin 4) : lM.view.readAt (Elt F) (lS h).toLoadRect (lBuf m c) = slab m (right^[h.val] c) := by
  funext x
  have h0 : (x 0).val < 1 := (x 0).isLt
  show lBuf m c ((lM.access (lS h)).emb x) = slab m (right^[h.val] c) x
  refine qAt_congr m ?_ ?_ ?_
  · have : (((lM.access (lS h)).emb x : S4x1536x768.Idx) 0).val = h.val + 1 * (x 0).val := rfl
    rw [this, show h.val + 1 * (x 0).val = h.val by omega]
  · show 0 + 1 * (x 1).val = _; omega
  · show 0 + 1 * (x 2).val = _; omega
/-- a piece of the last slot is a quarter of the opposite device's. -/
theorem load_sub (c : Dev nD) (p : Fin 4) :
    rM.view.readAt (Elt F) (rR (lst p)).toLoadRect (rBuf m c) = subq m (opp c) p := by
  funext x
  have h0 : (x 0).val < 1 := (x 0).isLt
  have h1 : (x 1).val < 384 := (x 1).isLt
  have e0 : (((rM.access (rR (lst p))).emb x : S5x1536x768.Idx) 0).val = (16 + p.val) / 4 + 1 * (x 0).val := rfl
  have e1 : (((rM.access (rR (lst p))).emb x : S5x1536x768.Idx) 1).val = 384 * ((16 + p.val) % 4) + 1 * (x 1).val := rfl
  have e2 : (((rM.access (rR (lst p))).emb x : S5x1536x768.Idx) 2).val = 0 + 1 * (x 2).val := rfl
  show qAt m (left^[(((rM.access (rR (lst p))).emb x : S5x1536x768.Idx) 0).val] c)
    (((rM.access (rR (lst p))).emb x : S5x1536x768.Idx) 1).val (((rM.access (rR (lst p))).emb x : S5x1536x768.Idx) 1).isLt _ = qz (aRows m (opp c) p) x
  have hz : (((rM.access (rR (lst p))).emb x : S5x1536x768.Idx) 0).val = 4 := by rw [e0]; omega
  rw [hz]
  unfold qAt opp
  congr 1
  · congr 1
    refine Fin.ext ?_
    show _ / 384 = p.val
    rw [e1]; omega
  · refine Eq.trans ?_ (eq_ix3 x).symm
    congr 1
    · exact Fin.ext (by show 0 = (x 0).val; omega)
    · refine Fin.ext ?_; show _ % 384 = (x 1).val; rw [e1]; omega
    · refine Fin.ext ?_; exact e2.trans (by omega)

/-- The product stored in a slot is what the slot is to hold; -/
theorem store_block (c : Dev nD) (p : Fin 2) (i : Fin 7) (f : Vec F S2x1536x1536 .f32) (x : S2x1536x1536.Idx)
    (hx : x ∈ (cM.access (cR p)).set) :
    (cM.access (cR p)).write (Elt F) f (dotF (slab m (org i.val c)) (bb m c)) Finset.univ x = cBuf m c i x := by
  obtain ⟨y, -, rfl⟩ := Finset.mem_map.mp hx
  rw [View.write_emb_of_mem _ _ (Finset.mem_univ y)]
  have h0 : (y 0).val < 1 := (y 0).isLt
  show dotF (slab m (org i.val c)) (bb m c) y = dotF (slab m (org i.val c)) (bb m c) (ix3 (0 : Fin 1) _ _)
  refine congrArg _ ((eq_ix3 y).trans ?_)
  congr 1
  · exact Fin.ext (by show (y 0).val = 0; omega)
  · exact Fin.ext (by show (y 1).val = 0 + 1 * (y 1).val; omega)
  · exact Fin.ext (by show (y 2).val = 0 + 1 * (y 2).val; omega)
theorem store_sub (c : Dev nD) (p : Fin 4) (f : Vec F S2x1536x1536 .f32) (x : S2x1536x1536.Idx)
    (hx : x ∈ (cM.access (sR p)).set) :
    (cM.access (sR p)).write (Elt F) f (dotS (subq m (opp c) p) (bb m c)) Finset.univ x = sBuf m c p x := by
  obtain ⟨y, -, rfl⟩ := Finset.mem_map.mp hx
  rw [View.write_emb_of_mem _ _ (Finset.mem_univ y)]
  have h0 : (y 0).val < 1 := (y 0).isLt
  have h1 : (y 1).val < 384 := (y 1).isLt
  show dotS (subq m (opp c) p) (bb m c) y = dotS (subq m (opp c) p) (bb m c) (ix3 (0 : Fin 1) _ _)
  refine congrArg _ ((eq_ix3 y).trans ?_)
  congr 1
  · exact Fin.ext (by show (y 0).val = 0; omega)
  · exact Fin.ext (by show (y 1).val = (384 * p.val + 1 * (y 1).val) % 384; omega)
  · exact Fin.ext (by show (y 2).val = 0 + 1 * (y 2).val; omega)

/-- What a copy writes to the result is what the result is to hold there. -/
theorem land_block (c : Dev nD) (p : Fin 2) (i : Fin 7) (fd : Vec F S12288x1536 .f32) (x : S12288x1536.Idx)
    (hx : x ∈ (oP (org i.val c)).view.set) :
    (oP (org i.val c)).view.write (Elt F) fd ((cP p).view.read (Elt F) (cBuf m c i)) Finset.univ x = oFin m c x := by
  obtain ⟨y, -, rfl⟩ := Finset.mem_map.mp hx
  rw [View.write_emb_of_mem _ _ (Finset.mem_univ y)]
  have h0 : (y 0).val < 1536 := (y 0).isLt
  have e := oP_emb (org i.val c) y
  have e' := cP_emb p y
  show cBuf m c i ((cP p).view.emb y) = oFin m c ((oP (org i.val c)).view.emb y)
  have hd : (((oP (org i.val c)).view.emb y : S12288x1536.Idx) 0).val / 1536 = (org i.val c).val := by rw [e.1]; omega
  unfold oFin
  rw [if_neg (fun h => org_ne_opp i c (Fin.ext (hd.symm.trans h)))]
  unfold cBuf
  have ho : org i.val c = (⟨(((oP (org i.val c)).view.emb y : S12288x1536.Idx) 0).val / 1536, by rw [hd]; exact (org i.val c).isLt⟩ : Dev nD) :=
    Fin.ext hd.symm
  rw [← ho]
  refine congrArg _ ?_
  congr 1
  · refine Fin.ext ?_; show _ = _ % 1536; rw [e.1, e'.2.1]; omega
  · refine Fin.ext ?_; rw [e.2, e'.2.2]
theorem land_sub (c : Dev nD) (p : Fin 4) (fd : Vec F S12288x1536 .f32) (x : S12288x1536.Idx)
    (hx : x ∈ (pP (opp c) p).view.set) :
    (pP (opp c) p).view.write (Elt F) fd ((sP p).view.read (Elt F) (sBuf m c p)) Finset.univ x = oFin m c x := by
  obtain ⟨y, -, rfl⟩ := Finset.mem_map.mp hx
  rw [View.write_emb_of_mem _ _ (Finset.mem_univ y)]
  have h0 : (y 0).val < 384 := (y 0).isLt
  have e := pP_emb (opp c) p y
  have e' := sP_emb p y
  show sBuf m c p ((sP p).view.emb y) = oFin m c ((pP (opp c) p).view.emb y)
  have hd : (((pP (opp c) p).view.emb y : S12288x1536.Idx) 0).val / 1536 = (opp c).val := by rw [e.1]; omega
  unfold oFin
  rw [if_pos hd]
  unfold sBuf
  have hp : p = (⟨(((pP (opp c) p).view.emb y : S12288x1536.Idx) 0).val % 1536 / 384, by omega⟩ : Fin 4) :=
    Fin.ext (by show p.val = _ % 1536 / 384; rw [e.1]; omega)
  rw [← hp]
  refine congrArg _ ?_
  congr 1
  · refine Fin.ext ?_; show _ % 384 = _ % 1536 % 384; rw [e.1, e'.2.1]; omega
  · refine Fin.ext ?_; rw [e.2, e'.2.2]

end Cert.Gather
end
-- ==== Proof.Schedule.lean ====
/- The semaphores' protocol: who pays which semaphore, how much, and what comes with it. -/
module

public import proofs.«01_k».proof.Proof.Contents

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

abbrev barCell (c : Dev nD) : GSem nD τ sig := ((c : Thread nD τ), .reg barS)
abbrev dmaCell (c : Dev nD) (q : DmaSem sig) : GSem nD τ sig := ((c : Thread nD τ), .dma q)

/-- The semaphores of the protocol on one device: the barrier, then the DMA semaphores from the third on. -/
abbrev csem : Fin 69 → SemLoc sig := fun k => if h : k.val = 0 then .reg barS else .dma ⟨k.val + 1, by show _ < 70; omega⟩
abbrev kcell (ck : Dev nD × Fin 69) : GSem nD τ sig := ((ck.1 : Thread nD τ), csem ck.2)
/-- Those of them scoped to the launch. -/
abbrev osem : Fin 68 → SemLoc sig := fun k => .dma ⟨k.val + 2, by show _ < 70; omega⟩

/-! ## Ownership of pieces -/

abbrev Sh : Type := PosShare TreeShare
abbrev full : Sh := fullShare

def rPts (c : Dev nD) (n : Fin 20) (q : Sh) (f : Vec F S5x1536x768 .i8) : sProp 𝕄 :=
  (rP n).view.loc (c : Thread nD τ) ↦[(rP n).view.set]{q} f
def lPts (c : Dev nD) (n : Fin 16) (q : Sh) (f : Vec F S4x1536x768 .i8) : sProp 𝕄 :=
  (lP n).view.loc (c : Thread nD τ) ↦[(lP n).view.set]{q} f
def cPts (c : Dev nD) (p : Fin 2) (f : Vec F S2x1536x1536 .f32) : sProp 𝕄 :=
  (cP p).view.loc (c : Thread nD τ) ↦[(cP p).view.set]{full} f
def sPts (c : Dev nD) (p : Fin 4) (f : Vec F S2x1536x1536 .f32) : sProp 𝕄 :=
  (sP p).view.loc (c : Thread nD τ) ↦[(sP p).view.set]{full} f
def oPts (c : Dev nD) (i : Fin 7) (f : Vec F S12288x1536 .f32) : sProp 𝕄 :=
  (oP (org i.val c)).view.loc (c : Thread nD τ) ↦[(oP (org i.val c)).view.set]{full} f
def pPts (c : Dev nD) (p : Fin 4) (f : Vec F S12288x1536 .f32) : sProp 𝕄 :=
  (pP (opp c) p).view.loc (c : Thread nD τ) ↦[(pP (opp c) p).view.set]{full} f

/-- The slot of the product buffer block `i` uses. -/
abbrev slot (i : Fin 7) : Fin 2 := ⟨i.val % 2, by omega⟩

/-- What a send to the left reads: own rows in the first slot of one buffer, later ones in the other buffer. -/
def lsPts (c : Dev nD) (t : Fin 12) : sProp 𝕄 :=
  if h : t.val < 4 then rPts c ⟨t.val, by omega⟩ full.right.left (rBuf m c) else lPts c (lsrc t) full.left (lBuf m c)

/-- What comes with each DMA semaphore's credit. -/
def dmaPay (c : Dev nD) : Use → sProp 𝕄
  | .rs t => rPts c (src t) full.left (rBuf m c)
  | .rr t => rPts c (nx t) full (rBuf m c)
  | .ls t => lsPts m c t
  | .lr t => lPts c (lnx t) full (lBuf m c)
  | .cp i => iprop(oPts c i (oFin m c) ∗ ∃ f, cPts (F := F) c (slot i) f)
  | .sp p => iprop(pPts c p (oFin m c) ∗ ∃ f, sPts (F := F) c p f)
  | .stg => iprop(emp)
  | .none => iprop(emp)

/-- What comes with a barrier unit: from the right neighbour the pieces this device's sends to the right fill, from the
    left neighbour the ones its sends to the left fill. -/
def barPay (c : Dev nD) (d : Bool) : sProp 𝕄 :=
  if d then bigSep (Finset.univ : Finset (Fin 12)) (fun t => iprop(∃ f, lPts (F := F) (left c) (lnx t) full f))
  else bigSep (Finset.univ : Finset (Fin 16)) (fun t => iprop(∃ f, rPts (F := F) (right c) (nx t) full f))

def dmaAmt : Use → ℕ
  | .cp _ => NC
  | .sp _ => NS
  | _ => N
theorem dmaAmt_pos : ∀ u : Use, 0 < dmaAmt u
  | .cp _ => NC_pos
  | .sp _ => NS_pos
  | .stg | .rs _ | .rr _ | .ls _ | .lr _ | .none => N_pos

def dmaDuties : Use → Finset Bool
  | .stg => ∅
  | .none => ∅
  | _ => {false}

def rd : Rounds.Schedule (GSem nD τ sig) Bool 𝕄 where
  duties g r := if r = 0 ∧ g.1.2 = .tc then (match g.2 with | .reg s => if s = barS then Finset.univ else ∅ | .dma q => dmaDuties (use q)) else ∅
  unitless _ := False
  amount g _ _ := match g.2 with | .reg _ => 1 | .dma q => dmaAmt (use q)
  payload g _ d := match g.2 with | .reg _ => barPay g.1.1 d | .dma q => dmaPay m g.1.1 (use q)
  amount_pos g _ _ _ := by
    rcases g with ⟨p, _ | q⟩
    · exact Nat.one_pos
    · exact dmaAmt_pos _

instance rPts_storable (c : Dev nD) (n q f) : BI.Storable (upEmb : UEmb _ 𝕄) (rPts (F := F) c n q f) := by unfold rPts; infer_instance
instance lPts_storable (c : Dev nD) (n q f) : BI.Storable (upEmb : UEmb _ 𝕄) (lPts (F := F) c n q f) := by unfold lPts; infer_instance
instance cPts_storable (c : Dev nD) (n f) : BI.Storable (upEmb : UEmb _ 𝕄) (cPts (F := F) c n f) := by unfold cPts; infer_instance
instance sPts_storable (c : Dev nD) (n f) : BI.Storable (upEmb : UEmb _ 𝕄) (sPts (F := F) c n f) := by unfold sPts; infer_instance
instance oPts_storable (c : Dev nD) (n f) : BI.Storable (upEmb : UEmb _ 𝕄) (oPts (F := F) c n f) := by unfold oPts; infer_instance
instance pPts_storable (c : Dev nD) (n f) : BI.Storable (upEmb : UEmb _ 𝕄) (pPts (F := F) c n f) := by unfold pPts; infer_instance
instance lsPts_storable (c : Dev nD) (t) : BI.Storable (upEmb : UEmb _ 𝕄) (lsPts m c t) := by
  unfold lsPts; split <;> infer_instance

instance rd_payload_storable (g : GSem nD τ sig) (r : ℕ) (d : Bool) : BI.Storable (upEmb : UEmb _ 𝕄) ((rd (F := F) m).payload g r d) := by
  rcases g with ⟨p, _ | q⟩
  · show BI.Storable _ (barPay p.1 d)
    unfold barPay
    split <;> infer_instance
  · show BI.Storable _ (dmaPay m p.1 (use q))
    cases use q <;> (unfold dmaPay; infer_instance)

/-! ## The schedule at a cell -/

section Cell
variable (c : Dev nD) (q : DmaSem sig)

theorem duties_bar : (rd (F := F) m).duties (barCell c) 0 = Finset.univ := by
  dsimp only [rd]; rw [if_pos ⟨rfl, rfl⟩]; exact if_pos rfl
theorem duties_dma : (rd (F := F) m).duties (dmaCell c q) 0 = dmaDuties (use q) := by
  dsimp only [rd]; exact if_pos ⟨rfl, rfl⟩
theorem duties_later (g : GSem nD τ sig) : ∀ r, 1 ≤ r → (rd (F := F) m).duties g r = ∅ :=
  fun r hr => by dsimp only [rd]; rw [if_neg fun h => by omega]
theorem amount_dma (d : Bool) : (rd (F := F) m).amount (dmaCell c q) 0 d = dmaAmt (use q) := rfl
theorem amount_bar (d : Bool) : (rd (F := F) m).amount (barCell c) 0 d = 1 := rfl
theorem payload_dma (d : Bool) : (rd (F := F) m).payload (dmaCell c q) 0 d = dmaPay m c (use q) := rfl
theorem payload_bar (d : Bool) : (rd (F := F) m).payload (barCell c) 0 d = barPay c d := rfl

theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (h : dmaDuties (use q) = {false}) : (rd (F := F) m).expect (dmaCell c q) 0 = dmaAmt (use q) := by
  unfold Schedule.expect Schedule.amountOf; rw [duties_dma, h, Finset.sum_singleton, amount_dma]

theorem rest_bar : bigSep ((rd (F := F) m).duties (barCell c) 0 \ ∅) (fun d => (rd (F := F) m).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_dma (h : dmaDuties (use q) = {false}) :
    bigSep ((rd (F := F) m).duties (dmaCell c q) 0 \ ∅) (fun d => (rd (F := F) m).payload (dmaCell c q) 0 d) = dmaPay m c (use q) := by
  rw [Finset.sdiff_empty, duties_dma, h, bigSep_singleton, payload_dma]

end Cell

/-! ## Levels -/

def L (g : GSem nD τ sig) : Finset Unit := if g.1.2 = .tc then {()} else ∅
def useLv : Use → ℕ
  | .rr t => t.val + 2
  | .lr t => t.val + 2
  | _ => 0
/-- The barrier at 1, the `t`-th arrivals at `t + 2`, everything else at 0. -/
def lv (g : GSem nD τ sig) (_ : Unit) : ℕ := match g.2 with | .reg _ => 1 | .dma q => useLv (use q)

theorem L_of_ne (g : GSem nD τ sig) (h : g.1.2 ≠ .tc) : L g = ∅ := if_neg h
theorem L_tc (c : Dev nD) (sm : SemLoc sig) : L ((c : Thread nD τ), sm) = {()} := if_pos rfl

/-! ## What a device still owes: the sends not yet issued, the barrier units not yet given -/

def owedR (c : Dev nD) (n : ℕ) : CellTallies nD τ sig Unit := ∑ t : Fin 16, if n ≤ t.val then tallyAt (dmaCell (right c) (rrS t)) () N else 0
def owedL (c : Dev nD) (n : ℕ) : CellTallies nD τ sig Unit := ∑ t : Fin 12, if n ≤ t.val then tallyAt (dmaCell (left c) (lrS t)) () N else 0
def owedB (c : Dev nD) (n : ℕ) : CellTallies nD τ sig Unit :=
  (if n < 1 then tallyAt (barCell (left c)) () 1 else 0) + (if n < 2 then tallyAt (barCell (right c)) () 1 else 0)
def owed (c : Dev nD) (g nr nl : ℕ) : CellTallies nD τ sig Unit := owedR c nr + owedL c nl + owedB c g

theorem owedR_step (c : Dev nD) (t : Fin 16) : owedR c t.val = owedR c (t.val + 1) + tallyAt (dmaCell (right c) (rrS t)) () N := by
  unfold owedR
  have h : ∀ u : Fin 16, (if t.val ≤ u.val then tallyAt (dmaCell (right c) (rrS u)) () N else 0 : CellTallies nD τ sig Unit)
      = (if t.val + 1 ≤ u.val then tallyAt (dmaCell (right c) (rrS u)) () N else 0)
        + (if t = u then tallyAt (dmaCell (right c) (rrS u)) () N else 0) := by
    intro u
    rcases Nat.lt_trichotomy t.val u.val with h | h | h
    · rw [if_pos (by omega), if_pos (by omega), if_neg (fun e => by rw [e] at h; omega), add_zero]
    · rw [if_pos (by omega), if_neg (by omega), if_pos (Fin.ext h), zero_add]
    · rw [if_neg (by omega), if_neg (by omega), if_neg (fun e => by rw [e] at h; omega), add_zero]
  rw [Finset.sum_congr rfl fun u _ => h u, Finset.sum_add_distrib, Finset.sum_ite_eq, if_pos (Finset.mem_univ _)]
theorem owedL_step (c : Dev nD) (t : Fin 12) : owedL c t.val = owedL c (t.val + 1) + tallyAt (dmaCell (left c) (lrS t)) () N := by
  unfold owedL
  have h : ∀ u : Fin 12, (if t.val ≤ u.val then tallyAt (dmaCell (left c) (lrS u)) () N else 0 : CellTallies nD τ sig Unit)
      = (if t.val + 1 ≤ u.val then tallyAt (dmaCell (left c) (lrS u)) () N else 0)
        + (if t = u then tallyAt (dmaCell (left c) (lrS u)) () N else 0) := by
    intro u
    rcases Nat.lt_trichotomy t.val u.val with h | h | h
    · rw [if_pos (by omega), if_pos (by omega), if_neg (fun e => by rw [e] at h; omega), add_zero]
    · rw [if_pos (by omega), if_neg (by omega), if_pos (Fin.ext h), zero_add]
    · rw [if_neg (by omega), if_neg (by omega), if_neg (fun e => by rw [e] at h; omega), add_zero]
  rw [Finset.sum_congr rfl fun u _ => h u, Finset.sum_add_distrib, Finset.sum_ite_eq, if_pos (Finset.mem_univ _)]
theorem owed_right (c : Dev nD) (g nl : ℕ) (t : Fin 16) :
    owed c g t.val nl = owed c g (t.val + 1) nl + tallyAt (dmaCell (right c) (rrS t)) () N := by
  unfold owed; rw [owedR_step]; ac_rfl
theorem owed_left (c : Dev nD) (g nr : ℕ) (t : Fin 12) :
    owed c g nr t.val = owed c g nr (t.val + 1) + tallyAt (dmaCell (left c) (lrS t)) () N := by
  unfold owed; rw [owedL_step]; ac_rfl
theorem owed_bar0 (c : Dev nD) (nr nl : ℕ) : owed c 0 nr nl = owed c 1 nr nl + tallyAt (barCell (left c)) () 1 := by
  show owedR c nr + owedL c nl + (tallyAt (barCell (left c)) () 1 + tallyAt (barCell (right c)) () 1)
    = owedR c nr + owedL c nl + (0 + tallyAt (barCell (right c)) () 1) + tallyAt (barCell (left c)) () 1
  rw [zero_add]; ac_rfl
theorem owed_bar1 (c : Dev nD) (nr nl : ℕ) : owed c 1 nr nl = owed c 2 nr nl + tallyAt (barCell (right c)) () 1 := by
  show owedR c nr + owedL c nl + (0 + tallyAt (barCell (right c)) () 1)
    = owedR c nr + owedL c nl + (0 + 0) + tallyAt (barCell (right c)) () 1
  rw [zero_add, add_zero, add_zero]

theorem owed_done (c : Dev nD) : owed c 2 16 12 = 0 := by
  unfold owed owedR owedL owedB
  rw [Finset.sum_eq_zero (fun t _ => if_neg (by have := t.isLt; omega)), Finset.sum_eq_zero (fun t _ => if_neg (by have := t.isLt; omega)),
    if_neg (by omega), if_neg (by omega)]
  simp

theorem tally_pos {g g' : GSem nD τ sig} {u : Unit} {k : ℕ} (h : 0 < tallyAt g () k g' u) : g' = g := by
  rw [tallyAt_apply] at h
  by_contra hn
  rw [if_neg fun h' => hn h'.1] at h
  exact Nat.lt_irrefl 0 h

theorem owedR_pos {c : Dev nD} {n : ℕ} {g : GSem nD τ sig} {u : Unit} (h : 0 < owedR c n g u) :
    ∃ t : Fin 16, n ≤ t.val ∧ g = dmaCell (right c) (rrS t) := by
  unfold owedR at h
  rw [Finset.sum_apply, Finsupp.finset_sum_apply] at h
  obtain ⟨t, -, ht⟩ := Finset.exists_ne_zero_of_sum_ne_zero (Nat.pos_iff_ne_zero.mp h)
  by_cases hn : n ≤ t.val
  · rw [if_pos hn] at ht
    exact ⟨t, hn, tally_pos (Nat.pos_of_ne_zero ht)⟩
  · rw [if_neg hn] at ht; exact absurd rfl ht
theorem owedL_pos {c : Dev nD} {n : ℕ} {g : GSem nD τ sig} {u : Unit} (h : 0 < owedL c n g u) :
    ∃ t : Fin 12, n ≤ t.val ∧ g = dmaCell (left c) (lrS t) := by
  unfold owedL at h
  rw [Finset.sum_apply, Finsupp.finset_sum_apply] at h
  obtain ⟨t, -, ht⟩ := Finset.exists_ne_zero_of_sum_ne_zero (Nat.pos_iff_ne_zero.mp h)
  by_cases hn : n ≤ t.val
  · rw [if_pos hn] at ht
    exact ⟨t, hn, tally_pos (Nat.pos_of_ne_zero ht)⟩
  · rw [if_neg hn] at ht; exact absurd rfl ht
theorem owedB_pos {c : Dev nD} {n : ℕ} {g : GSem nD τ sig} {u : Unit} (h : 0 < owedB c n g u) :
    n < 2 ∧ (g = barCell (left c) ∨ g = barCell (right c)) := by
  unfold owedB at h
  rw [Pi.add_apply, Finsupp.add_apply] at h
  rcases Nat.pos_iff_ne_zero.mp h |> fun h => (by omega : 0 < ((if n < 1 then tallyAt (barCell (left c)) () 1 else 0 : CellTallies nD τ sig Unit) g u) ∨ 0 < ((if n < 2 then tallyAt (barCell (right c)) () 1 else 0 : CellTallies nD τ sig Unit) g u)) with h | h
  · by_cases hn : n < 1
    · rw [if_pos hn] at h; exact ⟨by omega, .inl (tally_pos h)⟩
    · rw [if_neg hn] at h; exact absurd h (Nat.lt_irrefl 0)
  · by_cases hn : n < 2
    · rw [if_pos hn] at h; exact ⟨hn, .inr (tally_pos h)⟩
    · rw [if_neg hn] at h; exact absurd h (Nat.lt_irrefl 0)

/-- A device may wait on a semaphore whose level lies below everything it still owes (no sends are left to the right past the 16th, to the left past the 12th). -/
theorem mayWait (c : Dev nD) (sm : SemLoc sig) (g nr nl : ℕ) (h0 : lv ((c : Thread nD τ), sm) () < nr + 2 ∨ 16 ≤ nr) (h1 : lv ((c : Thread nD τ), sm) () < nl + 2 ∨ 12 ≤ nl)
    (h2 : lv ((c : Thread nD τ), sm) () < 1 ∨ 2 ≤ g) :
    (levAts L lv : sProp 𝕄) ⊢ MayWait (c : Thread nD τ) sm () (owed c g nr nl) := by
  have key : ∀ (g' : GSem nD τ sig) (u : Unit), 0 < owed c g nr nl g' u → u ∈ L g' ∧ lv ((c : Thread nD τ), sm) () < lv g' u := by
    intro g' u h
    unfold owed at h
    rw [Pi.add_apply, Finsupp.add_apply, Pi.add_apply, Finsupp.add_apply] at h
    rcases (by omega : 0 < owedR c nr g' u ∨ 0 < owedL c nl g' u ∨ 0 < owedB c g g' u) with h | h | h
    · obtain ⟨t, ht, rfl⟩ := owedR_pos h
      refine ⟨by rw [L_tc]; exact Finset.mem_singleton_self _, ?_⟩
      have : lv (dmaCell (right c) (rrS t)) u = t.val + 2 := by show useLv (use (rrS t)) = _; rw [use_rr]; rfl
      have := t.isLt
      omega
    · obtain ⟨t, ht, rfl⟩ := owedL_pos h
      refine ⟨by rw [L_tc]; exact Finset.mem_singleton_self _, ?_⟩
      have : lv (dmaCell (left c) (lrS t)) u = t.val + 2 := by show useLv (use (lrS t)) = _; rw [use_lr]; rfl
      have := t.isLt
      omega
    · obtain ⟨hg, h⟩ := owedB_pos h
      have e : lv g' u = 1 := by rcases h with rfl | rfl <;> rfl
      refine ⟨by rcases h with rfl | rfl <;> (rw [L_tc]; exact Finset.mem_singleton_self _), ?_⟩
      omega
  exact MayOwe.of_cut (L := L) (lev := lv) (lv ((c : Thread nD τ), sm) ()) (fun p hp => by rw [Finset.mem_singleton.mp hp, L_tc]; exact Finset.mem_singleton_self _)
    (fun g' u hg => (key g' u hg).1)
    (fun p hp => by rw [Finset.mem_singleton.mp hp])
    (fun g' u hg => (key g' u hg).2)

end Cert.Gather
end
-- ==== Proof.State.lean ====
/- What a device holds while its kernel runs: a set of resources told by a few counters. -/
module

public import Mathlib.Tactic.DeriveFintype
public import proofs.«01_k».proof.Proof.Schedule

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The counters -/

/-- How far a device has come: barrier units given, barrier waited for, quarters quantised, sends to the right and to the
    left issued, their arrivals here waited for, their completions waited for, the scaled `B` stored, products stored,
    copied out, and copies waited for. -/
structure St where
  sg : ℕ := 0
  bw : ℕ := 0
  q : ℕ := 0
  nr : ℕ := 0
  nl : ℕ := 0
  rr : ℕ := 0
  rl : ℕ := 0
  wr : ℕ := 0
  wl : ℕ := 0
  b : ℕ := 0
  cs : ℕ := 0
  ci : ℕ := 0
  cw : ℕ := 0

/-! ## The resources -/

/-- The resources a device may hold: see `den` for what each is. -/
inductive Res
  | barL | barR | barW | barD
  | rTok (t : Fin 16) | rDst (t : Fin 16) | rFly (t : Fin 16) | rEnd (t : Fin 16) | rSrc (t : Fin 16)
  | lTok (t : Fin 12) | lDst (t : Fin 12) | lFly (t : Fin 12) | lEnd (t : Fin 12) | lSrc (t : Fin 12)
  | rKeep (n : Fin 20) | rRaw (n : Fin 20) | lKeep (t : Fin 12) | lRaw (n : Fin 16)
  | rIn (t : Fin 16) | rGot (t : Fin 16) | lIn (t : Fin 12) | lGot (t : Fin 12)
  | cTok (i : Fin 7) | cFly (i : Fin 7) | cEnd (i : Fin 7) | sTok (p : Fin 4) | sFly (p : Fin 4) | sEnd (p : Fin 4)
  | cRaw (p : Fin 2) | cHold (i : Fin 7) | sRaw (p : Fin 4) | sHold (p : Fin 4)
  | bRaw | bHold | aStg | bStg
  deriving DecidableEq, Fintype

/-- The share of a quantised piece a device keeps to load it: what its sends leave. -/
def ksh (n : Fin 20) : Sh := if n.val < 4 then full.right.right else if n.val < 16 then full.right else full

def lkPts (c : Dev nD) (t : Fin 12) : sProp 𝕄 := lPts c (lnx t) (if t.val < 8 then full.right else full) (lBuf m c)
def bbPts (c : Dev nD) (f : Vec F S768x1536 .bf16) : sProp 𝕄 := ((c : Thread nD τ).loc cc0_scratch2) ↦{full} f

/-- What a resource is. -/
def den (c : Dev nD) : Res → sProp 𝕄
  | .barL => dutyTok ER (barCell (left c)) 0 false
  | .barR => dutyTok ER (barCell (right c)) 0 true
  | .barW => iprop(cred (tallyAt (barCell c) () 2) ∗ atPos ER (barCell c) 0 ∅ 0)
  | .barD => atPos ER (barCell c) 1 ∅ 0
  | .rTok t => iprop(dutyTok ER (dmaCell c (rsS t)) 0 false ∗ dutyTok ER (dmaCell (right c) (rrS t)) 0 false ∗ atPos ER (dmaCell c (rsS t)) 0 ∅ 0)
  | .rDst t => iprop(∃ f, rPts (F := F) (right c) (nx t) full f)
  | .rFly t => iprop(cred (tallyAt (dmaCell c (rsS t)) () N) ∗ atPos ER (dmaCell c (rsS t)) 0 ∅ 0)
  | .rEnd t => atPos ER (dmaCell c (rsS t)) 1 ∅ 0
  | .rSrc t => rPts c (src t) full.left (rBuf m c)
  | .lTok t => iprop(dutyTok ER (dmaCell c (lsS t)) 0 false ∗ dutyTok ER (dmaCell (left c) (lrS t)) 0 false ∗ atPos ER (dmaCell c (lsS t)) 0 ∅ 0)
  | .lDst t => iprop(∃ f, lPts (F := F) (left c) (lnx t) full f)
  | .lFly t => iprop(cred (tallyAt (dmaCell c (lsS t)) () N) ∗ atPos ER (dmaCell c (lsS t)) 0 ∅ 0)
  | .lEnd t => atPos ER (dmaCell c (lsS t)) 1 ∅ 0
  | .lSrc t => lsPts m c t
  | .rKeep n => rPts c n (ksh n) (rBuf m c)
  | .rRaw n => iprop(∃ f, rPts (F := F) c n full f)
  | .lKeep t => lkPts m c t
  | .lRaw n => iprop(∃ f, lPts (F := F) c n full f)
  | .rIn t => iprop(cred (tallyAt (dmaCell c (rrS t)) () N) ∗ atPos ER (dmaCell c (rrS t)) 0 ∅ 0)
  | .rGot t => atPos ER (dmaCell c (rrS t)) 1 ∅ 0
  | .lIn t => iprop(cred (tallyAt (dmaCell c (lrS t)) () N) ∗ atPos ER (dmaCell c (lrS t)) 0 ∅ 0)
  | .lGot t => atPos ER (dmaCell c (lrS t)) 1 ∅ 0
  | .cTok i => iprop(dutyTok ER (dmaCell c (cpS i)) 0 false ∗ atPos ER (dmaCell c (cpS i)) 0 ∅ 0 ∗ ∃ f, oPts (F := F) c i f)
  | .cFly i => iprop(cred (tallyAt (dmaCell c (cpS i)) () NC) ∗ atPos ER (dmaCell c (cpS i)) 0 ∅ 0)
  | .cEnd i => iprop(atPos ER (dmaCell c (cpS i)) 1 ∅ 0 ∗ oPts c i (oFin m c))
  | .sTok p => iprop(dutyTok ER (dmaCell c (spS p)) 0 false ∗ atPos ER (dmaCell c (spS p)) 0 ∅ 0 ∗ ∃ f, pPts (F := F) c p f)
  | .sFly p => iprop(cred (tallyAt (dmaCell c (spS p)) () NS) ∗ atPos ER (dmaCell c (spS p)) 0 ∅ 0)
  | .sEnd p => iprop(atPos ER (dmaCell c (spS p)) 1 ∅ 0 ∗ pPts c p (oFin m c))
  | .cRaw p => iprop(∃ f, cPts (F := F) c p f)
  | .cHold i => cPts c (slot i) (cBuf m c i)
  | .sRaw p => iprop(∃ f, sPts (F := F) c p f)
  | .sHold p => sPts c p (sBuf m c p)
  | .bRaw => iprop(∃ f, bbPts (F := F) c f)
  | .bHold => bbPts c (bb m c)
  | .aStg => ((c : Thread nD τ).loc cc0_stg0_0) ↦{full} aA m c
  | .bStg => ((c : Thread nD τ).loc cc0_stg1_0) ↦{full} bB m c

/-- When it is held. -/
def held (s : St) : Res → Prop
  | .barL => s.sg < 1
  | .barR => s.sg < 2
  | .barW => s.bw < 1
  | .barD => 0 < s.bw
  | .rTok t => s.nr ≤ t.val
  | .rDst t => 0 < s.bw ∧ s.nr ≤ t.val
  | .rFly t => s.wr ≤ t.val ∧ t.val < s.nr
  | .rEnd t => t.val < s.wr
  | .rSrc t => (t.val < 4 ∧ t.val < s.q ∧ s.nr ≤ t.val) ∨ (4 ≤ t.val ∧ t.val < s.rr + 4 ∧ s.nr ≤ t.val) ∨ t.val < s.wr
  | .lTok t => s.nl ≤ t.val
  | .lDst t => 0 < s.bw ∧ s.nl ≤ t.val
  | .lFly t => s.wl ≤ t.val ∧ t.val < s.nl
  | .lEnd t => t.val < s.wl
  | .lSrc t => (t.val < 4 ∧ t.val < s.q ∧ s.nl ≤ t.val) ∨ (4 ≤ t.val ∧ t.val < s.rl + 4 ∧ s.nl ≤ t.val) ∨ t.val < s.wl
  | .rKeep n => (n.val < 4 ∧ n.val < s.q) ∨ (4 ≤ n.val ∧ n.val < s.rr + 4)
  | .rRaw n => (n.val < 4 ∧ s.q ≤ n.val) ∨ (4 ≤ n.val ∧ s.sg < 1)
  | .lKeep t => t.val < s.rl
  | .lRaw n => n.val < 4 ∨ s.sg < 2
  | .rIn t => s.rr ≤ t.val
  | .rGot t => t.val < s.rr
  | .lIn t => s.rl ≤ t.val
  | .lGot t => t.val < s.rl
  | .cTok i => s.ci ≤ i.val
  | .cFly i => s.cw ≤ i.val ∧ i.val < s.ci
  | .cEnd i => i.val < s.cw
  | .sTok p => s.ci ≤ 7 + p.val
  | .sFly p => s.cw ≤ 7 + p.val ∧ 7 + p.val < s.ci
  | .sEnd p => 7 + p.val < s.cw
  | .cRaw p => (p.val = 0 ∧ (0 < s.cs → 0 < s.cw) ∧ (2 < s.cs → 2 < s.cw) ∧ (4 < s.cs → 4 < s.cw) ∧ (6 < s.cs → 6 < s.cw))
      ∨ (p.val = 1 ∧ s.cw < 6 ∧ (1 < s.cs → 1 < s.cw) ∧ (3 < s.cs → 3 < s.cw) ∧ (5 < s.cs → 5 < s.cw))
  | .cHold i => s.ci ≤ i.val ∧ i.val < s.cs
  | .sRaw p => 6 ≤ s.cw ∧ (7 + p.val < s.cs → 7 + p.val < s.cw)
  | .sHold p => s.ci ≤ 7 + p.val ∧ 7 + p.val < s.cs
  | .bRaw => s.b < 1
  | .bHold => 0 < s.b
  | .aStg => True
  | .bStg => True

open Classical in
/-- All a device holds at given counters. -/
def H (c : Dev nD) (s : St) : sProp 𝕄 := bigSep (Finset.univ.filter (held s)) (den m c)

/-- Trading the resources `A` for `B`, the rest untouched. -/
theorem exch (c : Dev nD) (s s' : St) (A B : List Res) (hA : A.Nodup) (hB : B.Nodup)
    (h : ∀ a, (a ∈ A → held s a) ∧ (a ∈ B → held s' a) ∧ ((held s a ∧ a ∉ A) ↔ (held s' a ∧ a ∉ B))) :
    H m c s ⊢ iprop(bigSepL A (den m c) ∗ (bigSepL B (den m c) -∗ H m c s')) := by
  classical
  have hd : Finset.univ.filter (held s) \ A.toFinset = Finset.univ.filter (held s') \ B.toFinset := by
    ext a
    simpa using (h a).2.2
  have hsA : A.toFinset ⊆ Finset.univ.filter (held s) := fun a ha => by simpa using (h a).1 (by simpa using ha)
  have hsB : B.toFinset ⊆ Finset.univ.filter (held s') := fun a ha => by simpa using (h a).2.1 (by simpa using ha)
  unfold H
  rw [BI.bigSep_sdiff_split hsA, BI.bigSep_sdiff_split hsB, hd, BI.bigSep_eq_bigSepL A hA, BI.bigSep_eq_bigSepL B hB]
  show iprop(bigSepL A (den m c) ∗ _) ⊢ iprop(bigSepL A (den m c) ∗ (bigSepL B (den m c) -∗ bigSepL B (den m c) ∗ _))
  iintro ⟨HA, HR⟩
  isplitl [HA]
  · iexact HA
  · iintro HB
    isplitl [HB]
    · iexact HB
    · iexact HR

/-- The resources of `A` looked at and put back. -/
theorem exch_same (c : Dev nD) (s : St) (A : List Res) (hA : A.Nodup) (h : ∀ a ∈ A, held s a) :
    H m c s ⊢ iprop(bigSepL A (den m c) ∗ (bigSepL A (den m c) -∗ H m c s)) :=
  exch m c s s A A hA hA fun a => ⟨h a, h a, .rfl⟩

/-! ## A device's state -/

/-- The names the cells got, and every cell past its start: the same for everyone, so kept whole. -/
def records (K : Dev nD × Fin 69 → ℕ) : sProp 𝕄 :=
  bigSep Finset.univ fun p => iprop(cellInv ER (rd m) (K p) (kcell p) ∗ reached ER (kcell p) 0)

instance records_persistent (K : Dev nD × Fin 69 → ℕ) : Persistent (records m K) := by unfold records; infer_instance

/-- What a device owes at given counters, whatever it has waited for. -/
def Ow (c : Dev nD) (s : St) : sProp 𝕄 := iprop(∃ W, owes (c : Thread nD τ) (owed c s.sg s.nr s.nl) W)

/-- What a device has at given counters, beside its place in the program. -/
def State (c : Dev nD) (K : Dev nD × Fin 69 → ℕ) (s : St) : sProp 𝕄 :=
  iprop(records m K ∗ levAts L lv ∗ Ow c s ∗ H m c s)

theorem inv_at (K : Dev nD × Fin 69 → ℕ) (p : Dev nD × Fin 69) :
    records m K ⊢ iprop(cellInv ER (rd m) (K p) (kcell p) ∗ reached ER (kcell p) 0) :=
  BI.bigSep_elim (Finset.mem_univ p)

theorem inv_dma (K : Dev nD × Fin 69 → ℕ) (c : Dev nD) (q : DmaSem sig) (h : 2 ≤ q.val) :
    ∃ κ, records m K ⊢ iprop(cellInv ER (rd m) κ (dmaCell c q) ∗ reached ER (dmaCell c q) 0) := by
  have hq : q.val < 70 := q.isLt
  have e : kcell (c, ⟨q.val - 1, by omega⟩) = dmaCell c q := by
    show (_, csem _) = _
    unfold csem
    rw [dif_neg (by show ¬ q.val - 1 = 0; omega)]
    exact congrArg (fun x => ((c : Thread nD τ), SemLoc.dma x)) (Fin.ext (by show q.val - 1 + 1 = q.val; omega))
  exact ⟨_, by rw [← e]; exact inv_at m K _⟩

theorem inv_bar (K : Dev nD × Fin 69 → ℕ) (c : Dev nD) :
    ∃ κ, records m K ⊢ iprop(cellInv ER (rd m) κ (barCell c) ∗ reached ER (barCell c) 0) := ⟨_, inv_at m K (c, 0)⟩

theorem sepL_cons (i j : Res) (l : List Res) (Φ : Res → sProp 𝕄) : bigSepL (i :: j :: l) Φ = iprop(Φ i ∗ bigSepL (j :: l) Φ) := rfl
theorem sepL_one (i : Res) (Φ : Res → sProp 𝕄) : bigSepL [i] Φ = Φ i := rfl

/-! ## Running it -/

abbrev 𝒱₀ : Variants := Variants.none
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- One step: it uses the resources `A` and leaves `B`. -/
theorem step {c : Dev nD} {K : Dev nD × Fin 69 → ℕ} {s s' : St} (A B : List Res) {p p' : sProp 𝕄} (hk : State m c K s' ⊢ p')
    (hA : A.Nodup) (hB : B.Nodup)
    (h : ∀ a, (a ∈ A → held s a) ∧ (a ∈ B → held s' a) ∧ ((held s a ∧ a ∉ A) ↔ (held s' a ∧ a ∉ B)))
    (hop : iprop(records m K ∗ levAts L lv ∗ Ow c s ∗ bigSepL A (den m c)) ⊢ iprop(((Ow c s' ∗ bigSepL B (den m c)) -∗ p') -∗ p)) :
    State m c K s ⊢ p := by
  unfold State at hk ⊢
  iintro ⟨#Hr, #Hl, Ho, HH⟩
  ihave Hx := (exch m c s s' A B hA hB h) $$ HH
  icases Hx with ⟨HA, HB⟩
  iapply hop $$ [Ho HA]
  · isplitr; · iexact Hr
    isplitr; · iexact Hl
    isplitl [Ho]; · iexact Ho
    iexact HA
  iintro ⟨Ho, HB'⟩
  iapply hk
  isplitr; · iexact Hr
  isplitr; · iexact Hl
  isplitl [Ho]; · iexact Ho
  iapply HB
  iexact HB'

/-- A step that leaves the counters and what it looks at as they are. -/
theorem look {c : Dev nD} {K : Dev nD × Fin 69 → ℕ} {s : St} (A : List Res) {p p' : sProp 𝕄} (hk : State m c K s ⊢ p')
    (hA : A.Nodup) (h : ∀ a ∈ A, held s a) (hop : bigSepL A (den m c) ⊢ iprop((bigSepL A (den m c) -∗ p') -∗ p)) :
    State m c K s ⊢ p := by
  refine step m A A hk hA hA (fun a => ⟨h a, h a, .rfl⟩) ?_
  iintro ⟨-, -, Ho, HA⟩ Hk
  iapply hop $$ HA
  iintro HA
  iapply Hk
  isplitl [Ho]; · iexact Ho
  iexact HA

end Cert.Gather
end
-- ==== Proof.Steps.lean ====
/- The kernel's operations, each as a step between the states of `State`: the transfers and the waits. -/
module

public import proofs.«01_k».proof.Proof.State

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {c : Dev nD} {K : Dev nD × Fin 69 → ℕ} {s : St}
variable {α : Type} {P : α → sProp (MT nD τ sig Unit (Elt F) ℕ UU ℕ)}

omit [FloatOps F] in
theorem rPts_halves (c : Dev nD) (n : Fin 20) (q : Sh) (f : Vec F S5x1536x768 .i8) : rPts c n q f ⊢ iprop(rPts c n q.left f ∗ rPts c n q.right f) := by
  unfold rPts; exact (pointsTo_share (PosShare.mem_left_op_right q)).1
omit [FloatOps F] in
theorem lPts_halves (c : Dev nD) (n : Fin 16) (q : Sh) (f : Vec F S4x1536x768 .i8) : lPts c n q f ⊢ iprop(lPts c n q.left f ∗ lPts c n q.right f) := by
  unfold lPts; exact (pointsTo_share (PosShare.mem_left_op_right q)).1

/-! ## Transfers between devices -/

theorem step_sendR (t : Fin 16) (n : Dev nD) (hn : n = right c)
    (hs : s.nr = t.val ∧ 1 ≤ s.bw ∧ s.wr ≤ t.val ∧ ((t.val < 4 ∧ t.val < s.q) ∨ (4 ≤ t.val ∧ t.val < s.rr + 4)))
    {hsc : (rP (nx t) : Memref sig (Dev.tc n : Thread nD τ).2.kind .vmem S384x768 .i8).view.ref.isScScratch = false}
    {hsrc : (rP (src t)).view.WordExact} {hdst : (rP (nx t)).view.WordExact}
    {hsem : DmaTarget.Typed .vmem (.dma (rrS t)) (.remote (Dev.tc n : Thread nD τ) (rP (nx t)) (.dma (rsS t)) hsc)}
    {k : PUnit → Prog (TpuEff nD τ sig (Elt F) Λ₀ .tc) α}
    (hk : State m c K { s with nr := t.val + 1 } ⊢ Wp c (k ⟨⟩) P) :
    State m c K s ⊢ Wp c (.op (.enqueueDma (rP (src t)) (.remote (Dev.tc n : Thread nD τ) (rP (nx t)) (.dma (rsS t)) hsc) (.dma (rrS t)) hsrc hdst hsem) k) P := by
  subst hn
  obtain ⟨h1, h2, h3, h4⟩ := hs
  refine step m [.rTok t, .rDst t, .rSrc t] [.rFly t] hk (by simp) (by simp) ?_ ?_
  · intro a
    cases a <;> simp only [held, List.mem_cons, List.not_mem_nil, Res.rTok.injEq, Res.rDst.injEq, Res.rSrc.injEq, Res.rFly.injEq,
      Fin.ext_iff, reduceCtorEq, or_false, false_or, or_self, not_false_eq_true, and_true, true_and, false_imp_iff, IsEmpty.forall_iff] <;> omega
  obtain ⟨κ₁, i₁⟩ := inv_dma m K c (rsS t) (by show 2 ≤ 2 + t.val; omega)
  obtain ⟨κ₂, i₂⟩ := inv_dma m K (right c) (rrS t) (by show 2 ≤ 18 + t.val; omega)
  unfold Ow
  simp only [sepL_cons, sepL_one, den, h1]
  rw [owed_right]
  iintro ⟨#Hr, -, ⟨%W, HO⟩, ⟨Ht1, Ht2, Hat⟩, ⟨%fd, Hd⟩, Hs⟩ Hk
  ihave H1 := i₁ $$ Hr
  icases H1 with ⟨#I1, #R1⟩
  ihave H2 := i₂ $$ Hr
  icases H2 with ⟨#I2, #R2⟩
  unfold rPts
  iapply (Rounds.wp_send_pointsTo 𝒱₀ ER (rd m) (c : Thread nD τ) none (κ₁ := κ₁) (κ₂ := κ₂) (r₁ := 0) (r₂ := 0) (d₁ := false) (d₂ := false) (fd := fd)
    (by rw [duties_dma, use_rs]; exact Finset.mem_singleton_self _) (by rw [duties_dma, use_rr]; exact Finset.mem_singleton_self _)
    () () N (by exact rP_credit (nx t)) (by rw [amount_dma, use_rs]; rfl) (by rw [amount_dma, use_rr]; rfl) (owed c s.sg (t.val + 1) s.nl) rfl (W := W)
    (by rw [payload_dma, use_rs]; exact BI.Entails.refl _)
    (by rw [payload_dma, use_rr]; exact Entails.of_eq (pointsTo_congr fun i hi => land_right m c t fd i hi))) $$ [HO Ht1 Ht2 Hd Hs]
  · isplitr; · iexact I1
    isplitr; · iexact I2
    isplitl [Hs]; · iexact Hs
    isplitl [Hd]; · iexact Hd
    isplitl [HO]; · iexact HO
    isplitl [Ht1]; · iexact Ht1
    isplitr; · iexact R1
    isplitl [Ht2]; · iexact Ht2
    iexact R2
  iintro ⟨Hc, HO⟩
  iapply Hk
  isplitl [HO]
  · iexists W; iexact HO
  isplitl [Hc]; · iexact Hc
  iexact Hat

theorem step_sendL0 (j : Fin 4) (n : Dev nD) (hn : n = left c) (hs : s.nl = j.val ∧ 1 ≤ s.bw ∧ s.wl ≤ j.val ∧ j.val < s.q)
    {hsc : (lP (lnx (fst12 j)) : Memref sig (Dev.tc n : Thread nD τ).2.kind .vmem S384x768 .i8).view.ref.isScScratch = false}
    {hsrc : (rP (fst20 j)).view.WordExact} {hdst : (lP (lnx (fst12 j))).view.WordExact}
    {hsem : DmaTarget.Typed .vmem (.dma (lrS (fst12 j))) (.remote (Dev.tc n : Thread nD τ) (lP (lnx (fst12 j))) (.dma (lsS (fst12 j))) hsc)}
    {k : PUnit → Prog (TpuEff nD τ sig (Elt F) Λ₀ .tc) α}
    (hk : State m c K { s with nl := j.val + 1 } ⊢ Wp c (k ⟨⟩) P) :
    State m c K s ⊢ Wp c (.op (.enqueueDma (rP (fst20 j)) (.remote (Dev.tc n : Thread nD τ) (lP (lnx (fst12 j))) (.dma (lsS (fst12 j))) hsc)
      (.dma (lrS (fst12 j))) hsrc hdst hsem) k) P := by
  subst hn
  obtain ⟨h1, h2, h3, h4⟩ := hs
  have hj := j.isLt
  refine step m [.lTok (fst12 j), .lDst (fst12 j), .lSrc (fst12 j)] [.lFly (fst12 j)] hk (by simp) (by simp) ?_ ?_
  · intro a
    cases a <;> simp only [held, List.mem_cons, List.not_mem_nil, Res.lTok.injEq, Res.lDst.injEq, Res.lSrc.injEq, Res.lFly.injEq,
      Fin.ext_iff, reduceCtorEq, or_false, false_or, or_self, not_false_eq_true, and_true, true_and, false_imp_iff, IsEmpty.forall_iff] <;> omega
  obtain ⟨κ₁, i₁⟩ := inv_dma m K c (lsS (fst12 j)) (by show 2 ≤ 34 + j.val; omega)
  obtain ⟨κ₂, i₂⟩ := inv_dma m K (left c) (lrS (fst12 j)) (by show 2 ≤ 46 + j.val; omega)
  have hl : lsPts m c (fst12 j) = rPts c (fst20 j) full.right.left (rBuf m c) := by unfold lsPts; rw [dif_pos hj]
  unfold Ow
  simp only [sepL_cons, sepL_one, den, h1]
  rw [owed_left c s.sg s.nr (fst12 j), hl]
  iintro ⟨#Hr, -, ⟨%W, HO⟩, ⟨Ht1, Ht2, Hat⟩, ⟨%fd, Hd⟩, Hs⟩ Hk
  ihave H1 := i₁ $$ Hr
  icases H1 with ⟨#I1, #R1⟩
  ihave H2 := i₂ $$ Hr
  icases H2 with ⟨#I2, #R2⟩
  unfold rPts lPts
  iapply (Rounds.wp_send_pointsTo 𝒱₀ ER (rd m) (c : Thread nD τ) none (κ₁ := κ₁) (κ₂ := κ₂) (r₁ := 0) (r₂ := 0) (d₁ := false) (d₂ := false) (fd := fd)
    (by rw [duties_dma, use_ls]; exact Finset.mem_singleton_self _) (by rw [duties_dma, use_lr]; exact Finset.mem_singleton_self _)
    () () N (by exact lP_credit (lnx (fst12 j))) (by rw [amount_dma, use_ls]; rfl) (by rw [amount_dma, use_lr]; rfl) (owed c s.sg s.nr (j.val + 1)) rfl (W := W)
    (by rw [payload_dma, use_ls]; exact Entails.of_eq hl.symm)
    (by rw [payload_dma, use_lr]; exact Entails.of_eq (pointsTo_congr fun i hi => land_left0 m c j fd i hi))) $$ [HO Ht1 Ht2 Hd Hs]
  · isplitr; · iexact I1
    isplitr; · iexact I2
    isplitl [Hs]; · iexact Hs
    isplitl [Hd]; · iexact Hd
    isplitl [HO]; · iexact HO
    isplitl [Ht1]; · iexact Ht1
    isplitr; · iexact R1
    isplitl [Ht2]; · iexact Ht2
    iexact R2
  iintro ⟨Hc, HO⟩
  iapply Hk
  isplitl [HO]
  · iexists W; iexact HO
  isplitl [Hc]; · iexact Hc
  iexact Hat

theorem step_sendL (t : Fin 12) (n : Dev nD) (hn : n = left c) (hs : s.nl = t.val ∧ 1 ≤ s.bw ∧ s.wl ≤ t.val ∧ 4 ≤ t.val ∧ t.val < s.rl + 4)
    {hsc : (lP (lnx t) : Memref sig (Dev.tc n : Thread nD τ).2.kind .vmem S384x768 .i8).view.ref.isScScratch = false}
    {hsrc : (lP (lsrc t)).view.WordExact} {hdst : (lP (lnx t)).view.WordExact}
    {hsem : DmaTarget.Typed .vmem (.dma (lrS t)) (.remote (Dev.tc n : Thread nD τ) (lP (lnx t)) (.dma (lsS t)) hsc)}
    {k : PUnit → Prog (TpuEff nD τ sig (Elt F) Λ₀ .tc) α}
    (hk : State m c K { s with nl := t.val + 1 } ⊢ Wp c (k ⟨⟩) P) :
    State m c K s ⊢ Wp c (.op (.enqueueDma (lP (lsrc t)) (.remote (Dev.tc n : Thread nD τ) (lP (lnx t)) (.dma (lsS t)) hsc) (.dma (lrS t)) hsrc hdst hsem) k) P := by
  subst hn
  obtain ⟨h1, h2, h3, h4, h5⟩ := hs
  refine step m [.lTok t, .lDst t, .lSrc t] [.lFly t] hk (by simp) (by simp) ?_ ?_
  · intro a
    cases a <;> simp only [held, List.mem_cons, List.not_mem_nil, Res.lTok.injEq, Res.lDst.injEq, Res.lSrc.injEq, Res.lFly.injEq,
      Fin.ext_iff, reduceCtorEq, or_false, false_or, or_self, not_false_eq_true, and_true, true_and, false_imp_iff, IsEmpty.forall_iff] <;> omega
  obtain ⟨κ₁, i₁⟩ := inv_dma m K c (lsS t) (by show 2 ≤ 34 + t.val; omega)
  obtain ⟨κ₂, i₂⟩ := inv_dma m K (left c) (lrS t) (by show 2 ≤ 46 + t.val; omega)
  have hl : lsPts m c t = lPts c (lsrc t) full.left (lBuf m c) := by unfold lsPts; rw [dif_neg (by omega)]
  unfold Ow
  simp only [sepL_cons, sepL_one, den, h1]
  rw [owed_left, hl]
  iintro ⟨#Hr, -, ⟨%W, HO⟩, ⟨Ht1, Ht2, Hat⟩, ⟨%fd, Hd⟩, Hs⟩ Hk
  ihave H1 := i₁ $$ Hr
  icases H1 with ⟨#I1, #R1⟩
  ihave H2 := i₂ $$ Hr
  icases H2 with ⟨#I2, #R2⟩
  unfold lPts
  iapply (Rounds.wp_send_pointsTo 𝒱₀ ER (rd m) (c : Thread nD τ) none (κ₁ := κ₁) (κ₂ := κ₂) (r₁ := 0) (r₂ := 0) (d₁ := false) (d₂ := false) (fd := fd)
    (by rw [duties_dma, use_ls]; exact Finset.mem_singleton_self _) (by rw [duties_dma, use_lr]; exact Finset.mem_singleton_self _)
    () () N (by exact lP_credit (lnx t)) (by rw [amount_dma, use_ls]; rfl) (by rw [amount_dma, use_lr]; rfl) (owed c s.sg s.nr (t.val + 1)) rfl (W := W)
    (by rw [payload_dma, use_ls]; exact Entails.of_eq hl.symm)
    (by rw [payload_dma, use_lr]; exact Entails.of_eq (pointsTo_congr fun i hi => land_left m c t fd i hi))) $$ [HO Ht1 Ht2 Hd Hs]
  · isplitr; · iexact I1
    isplitr; · iexact I2
    isplitl [Hs]; · iexact Hs
    isplitl [Hd]; · iexact Hd
    isplitl [HO]; · iexact HO
    isplitl [Ht1]; · iexact Ht1
    isplitr; · iexact R1
    isplitl [Ht2]; · iexact Ht2
    iexact R2
  iintro ⟨Hc, HO⟩
  iapply Hk
  isplitl [HO]
  · iexists W; iexact HO
  isplitl [Hc]; · iexact Hc
  iexact Hat

/-! ## Waits on DMA semaphores -/

/-! Which arrivals are passed on, as which send, and which stay. -/

abbrev r12 (t : Fin 12) : Fin 16 := ⟨t.val, by omega⟩
abbrev r16 (t : Fin 12) : Fin 16 := ⟨t.val + 4, by omega⟩
abbrev r4 (p : Fin 4) : Fin 16 := ⟨12 + p.val, by omega⟩
abbrev l8 (t : Fin 8) : Fin 12 := ⟨t.val, by omega⟩
abbrev l12 (t : Fin 8) : Fin 12 := ⟨t.val + 4, by omega⟩
abbrev l4 (p : Fin 4) : Fin 12 := ⟨8 + p.val, by omega⟩

/-- A wait for a DMA semaphore's whole credit: what comes with the credit comes out. -/
theorem wait_dma (q : DmaSem sig) (n : ℕ) (hq : 2 ≤ q.val) (hd : dmaDuties (use q) = {false}) (ha : dmaAmt (use q) = n)
    (hr : useLv (use q) < s.nr + 2 ∨ 16 ≤ s.nr) (hl : useLv (use q) < s.nl + 2 ∨ 12 ≤ s.nl) (hb : useLv (use q) < 1 ∨ 2 ≤ s.sg)
    {sp sp' : Space} {z z' : Shape} {e e' : EltTy} {sM : Memref sig .tc sp' z' e'} {dM : Memref sig .tc sp z e}
    {hsrc : sM.view.WordExact} {hdst : dM.view.WordExact} (hn : dM.view.dmaCredit = n)
    {k : PUnit → Prog (TpuEff nD τ sig (Elt F) Λ₀ .tc) α} :
    iprop(records m K ∗ levAts L lv ∗ Ow c s ∗ cred (tallyAt (dmaCell c q) () n) ∗ atPos ER (dmaCell c q) 0 ∅ 0)
      ⊢ iprop(((Ow c s ∗ atPos ER (dmaCell c q) 1 ∅ 0 ∗ dmaPay m c (use q)) -∗ Wp c (k ⟨⟩) P)
        -∗ Wp c (.op (.waitDma2 q sM dM hsrc hdst) k) P) := by
  subst hn
  obtain ⟨κ, i⟩ := inv_dma m K c q hq
  unfold Ow
  iintro ⟨#Hr, #Hl, ⟨%W, HO⟩, Hc, Hat⟩ Hk
  ihave H1 := i $$ Hr
  icases H1 with ⟨#I1, -⟩
  iapply (Rounds.wp_wait_rest_token 𝒱₀ ER (rd m) (c : Thread nD τ) none (κ := κ)
      (wpE_waitDma2_eq 𝒱₀ (c : Thread nD τ) none Set.univ) (Set.mem_univ _) () (O := owed c s.sg s.nr s.nl) (W := W) (R := 0) (m := 0) (T := ∅)
      (by rw [expect_dma m c q hd, ha, Nat.zero_add])) $$ [HO Hc Hat]
  · isplitr; · iexact I1
    isplitl [Hc]; · iexact Hc
    isplitl [HO]; · iexact HO
    isplitr
    · iapply (mayWait c (.dma q) s.sg s.nr s.nl hr hl hb)
      iexact Hl
    iexact Hat
  iintro ⟨HO, Hat, -, Hp⟩
  ihave Hp := (Entails.of_eq (rest_dma m c q hd)) $$ Hp
  iapply Hk
  isplitl [HO]; · iexists _; iexact HO
  isplitl [Hat]; · iexact Hat
  iexact Hp

section Waits
variable {sp sp' : Space} {z z' : Shape} {e e' : EltTy} {sM : Memref sig .tc sp' z' e'} {dM : Memref sig .tc sp z e}
  {hsrc : sM.view.WordExact} {hdst : dM.view.WordExact} {k : PUnit → Prog (TpuEff nD τ sig (Elt F) Λ₀ .tc) α}

/-- An arrival from the left that is to be passed on: a share for the pass, a share to load. -/
theorem step_waitR (t : Fin 12) (hs : s.rr = t.val ∧ s.nr = t.val + 4 ∧ s.nl ≤ 12 ∧ (t.val < s.nl ∨ 12 ≤ s.nl) ∧ s.wr = 0 ∧ 2 ≤ s.sg)
    (hn : dM.view.dmaCredit = N) (hk : State m c K { s with rr := t.val + 1 } ⊢ Wp c (k ⟨⟩) P) :
    State m c K s ⊢ Wp c (.op (.waitDma2 (rrS (r12 t)) sM dM hsrc hdst) k) P := by
  obtain ⟨h1, h2, h3, h4, h5, h6⟩ := hs
  have ht := t.isLt
  have hu := use_rr (r12 t)
  refine step m [.rIn (r12 t)] [.rGot (r12 t), .rKeep (nx (r12 t)), .rSrc (r16 t)] hk (by simp) (by simp) ?_ ?_
  · intro a
    cases a <;> simp only [held, List.mem_cons, List.not_mem_nil, Res.rIn.injEq, Res.rGot.injEq, Res.rKeep.injEq, Res.rSrc.injEq,
      Fin.ext_iff, reduceCtorEq, or_false, false_or, or_self, not_false_eq_true, and_true, true_and, false_imp_iff, IsEmpty.forall_iff] <;> omega
  have hp : dmaPay m c (use (rrS (r12 t))) ⊢ iprop(rPts c (nx (r12 t)) (ksh (nx (r12 t))) (rBuf m c)
      ∗ rPts c (src (r16 t)) full.left (rBuf m c)) := by
    rw [hu, show ksh (nx (r12 t)) = full.right from (if_neg (by show ¬ t.val + 4 < 4; omega)).trans (if_pos (by show t.val + 4 < 16; omega))]
    show rPts c _ full (rBuf m c) ⊢ _
    exact (rPts_halves c _ full _).trans sep_comm
  simp only [sepL_cons, sepL_one, den]
  iintro ⟨#Hr, #Hl, Ho, Hc, Hat⟩ Hk
  iapply (wait_dma m (K := K) (s := s) (rrS (r12 t)) N (by show 2 ≤ 18 + t.val; omega) (by rw [hu]; rfl) (by rw [hu]; rfl)
    (by rw [hu]; left; show t.val + 2 < s.nr + 2; omega) (by rw [hu]; show t.val + 2 < s.nl + 2 ∨ _; omega) (by rw [hu]; right; omega) hn) $$ [Ho Hc Hat]
  · isplitr; · iexact Hr
    isplitr; · iexact Hl
    isplitl [Ho]; · iexact Ho
    isplitl [Hc]; · iexact Hc
    iexact Hat
  iintro ⟨Ho, Hat, Hp⟩
  ihave Hp := hp $$ Hp
  iapply Hk
  isplitl [Ho]; · iexact Ho
  isplitl [Hat]; · iexact Hat
  iexact Hp

/-- An arrival from the left that stays: all of it to load. -/
theorem step_waitR' (p : Fin 4) (hs : s.rr = 12 + p.val ∧ s.nr = 16 ∧ s.nl = 12 ∧ s.wr = 0 ∧ 2 ≤ s.sg)
    (hn : dM.view.dmaCredit = N) (hk : State m c K { s with rr := 13 + p.val } ⊢ Wp c (k ⟨⟩) P) :
    State m c K s ⊢ Wp c (.op (.waitDma2 (rrS (r4 p)) sM dM hsrc hdst) k) P := by
  obtain ⟨h1, h2, h3, h4, h5⟩ := hs
  have ht := p.isLt
  have hu := use_rr (r4 p)
  refine step m [.rIn (r4 p)] [.rGot (r4 p), .rKeep (lst p)] hk (by simp) (by simp) ?_ ?_
  · intro a
    cases a <;> simp only [held, List.mem_cons, List.not_mem_nil, Res.rIn.injEq, Res.rGot.injEq, Res.rKeep.injEq,
      Fin.ext_iff, reduceCtorEq, or_false, false_or, or_self, not_false_eq_true, and_true, true_and, false_imp_iff, IsEmpty.forall_iff] <;> omega
  have hp : dmaPay m c (use (rrS (r4 p))) ⊢ rPts c (lst p) (ksh (lst p)) (rBuf m c) := by
    rw [hu, show ksh (lst p) = full from (if_neg (by show ¬ 16 + p.val < 4; omega)).trans (if_neg (by show ¬ 16 + p.val < 16; omega))]
    exact Entails.of_eq (congrArg (fun n => rPts c n full (rBuf m c)) (Fin.ext (by show 12 + p.val + 4 = 16 + p.val; omega)))
  simp only [sepL_cons, sepL_one, den]
  iintro ⟨#Hr, #Hl, Ho, Hc, Hat⟩ Hk
  iapply (wait_dma m (K := K) (s := s) (rrS (r4 p)) N (by show 2 ≤ 18 + (12 + p.val); omega) (by rw [hu]; rfl) (by rw [hu]; rfl)
    (by right; omega) (by right; omega) (by rw [hu]; right; omega) hn) $$ [Ho Hc Hat]
  · isplitr; · iexact Hr
    isplitr; · iexact Hl
    isplitl [Ho]; · iexact Ho
    isplitl [Hc]; · iexact Hc
    iexact Hat
  iintro ⟨Ho, Hat, Hp⟩
  ihave Hp := hp $$ Hp
  iapply Hk
  isplitl [Ho]; · iexact Ho
  isplitl [Hat]; · iexact Hat
  iexact Hp

/-- An arrival from the right that is to be passed on, -/
theorem step_waitL (t : Fin 8) (hs : s.rl = t.val ∧ s.nl = t.val + 4 ∧ (t.val < s.nr ∨ 16 ≤ s.nr) ∧ s.wl = 0 ∧ 2 ≤ s.sg)
    (hn : dM.view.dmaCredit = N) (hk : State m c K { s with rl := t.val + 1 } ⊢ Wp c (k ⟨⟩) P) :
    State m c K s ⊢ Wp c (.op (.waitDma2 (lrS (l8 t)) sM dM hsrc hdst) k) P := by
  obtain ⟨h1, h2, h3, h4, h5⟩ := hs
  have ht := t.isLt
  have hu := use_lr (l8 t)
  refine step m [.lIn (l8 t)] [.lGot (l8 t), .lKeep (l8 t), .lSrc (l12 t)] hk (by simp) (by simp) ?_ ?_
  · intro a
    cases a <;> simp only [held, List.mem_cons, List.not_mem_nil, Res.lIn.injEq, Res.lGot.injEq, Res.lKeep.injEq, Res.lSrc.injEq,
      Fin.ext_iff, reduceCtorEq, or_false, false_or, or_self, not_false_eq_true, and_true, true_and, false_imp_iff, IsEmpty.forall_iff] <;> omega
  have hp : dmaPay m c (use (lrS (l8 t))) ⊢ iprop(lkPts m c (l8 t) ∗ lsPts m c (l12 t)) := by
    rw [hu]
    unfold lkPts lsPts
    rw [if_pos (by show t.val < 8; omega), dif_neg (by show ¬ t.val + 4 < 4; omega)]
    exact (lPts_halves c _ full _).trans sep_comm
  simp only [sepL_cons, sepL_one, den]
  iintro ⟨#Hr, #Hl, Ho, Hc, Hat⟩ Hk
  iapply (wait_dma m (K := K) (s := s) (lrS (l8 t)) N (by show 2 ≤ 46 + t.val; omega) (by rw [hu]; rfl) (by rw [hu]; rfl)
    (by rw [hu]; show t.val + 2 < s.nr + 2 ∨ _; omega) (by rw [hu]; left; show t.val + 2 < s.nl + 2; omega) (by rw [hu]; right; omega) hn) $$ [Ho Hc Hat]
  · isplitr; · iexact Hr
    isplitr; · iexact Hl
    isplitl [Ho]; · iexact Ho
    isplitl [Hc]; · iexact Hc
    iexact Hat
  iintro ⟨Ho, Hat, Hp⟩
  ihave Hp := hp $$ Hp
  iapply Hk
  isplitl [Ho]; · iexact Ho
  isplitl [Hat]; · iexact Hat
  iexact Hp

/-- and one that stays. -/
theorem step_waitL' (p : Fin 4) (hs : s.rl = 8 + p.val ∧ s.nl = 12 ∧ (8 + p.val < s.nr ∨ 16 ≤ s.nr) ∧ s.wl = 0 ∧ 2 ≤ s.sg)
    (hn : dM.view.dmaCredit = N) (hk : State m c K { s with rl := 9 + p.val } ⊢ Wp c (k ⟨⟩) P) :
    State m c K s ⊢ Wp c (.op (.waitDma2 (lrS (l4 p)) sM dM hsrc hdst) k) P := by
  obtain ⟨h1, h2, h3, h4, h5⟩ := hs
  have ht := p.isLt
  have hu := use_lr (l4 p)
  refine step m [.lIn (l4 p)] [.lGot (l4 p), .lKeep (l4 p)] hk (by simp) (by simp) ?_ ?_
  · intro a
    cases a <;> simp only [held, List.mem_cons, List.not_mem_nil, Res.lIn.injEq, Res.lGot.injEq, Res.lKeep.injEq,
      Fin.ext_iff, reduceCtorEq, or_false, false_or, or_self, not_false_eq_true, and_true, true_and, false_imp_iff, IsEmpty.forall_iff] <;> omega
  have hp : dmaPay m c (use (lrS (l4 p))) ⊢ lkPts m c (l4 p) := by
    rw [hu]
    unfold lkPts
    rw [if_neg (by show ¬ 8 + p.val < 8; omega)]
    exact .rfl
  simp only [sepL_cons, sepL_one, den]
  iintro ⟨#Hr, #Hl, Ho, Hc, Hat⟩ Hk
  iapply (wait_dma m (K := K) (s := s) (lrS (l4 p)) N (by show 2 ≤ 46 + (8 + p.val); omega) (by rw [hu]; rfl) (by rw [hu]; rfl)
    (by rw [hu]; show 8 + p.val + 2 < s.nr + 2 ∨ _; omega) (by right; omega) (by rw [hu]; right; omega) hn) $$ [Ho Hc Hat]
  · isplitr; · iexact Hr
    isplitr; · iexact Hl
    isplitl [Ho]; · iexact Ho
    isplitl [Hc]; · iexact Hc
    iexact Hat
  iintro ⟨Ho, Hat, Hp⟩
  ihave Hp := hp $$ Hp
  iapply Hk
  isplitl [Ho]; · iexact Ho
  isplitl [Hat]; · iexact Hat
  iexact Hp

/-- A send's completion: its source back. -/
theorem step_doneR (t : Fin 16) (hs : s.wr = t.val ∧ s.nr = 16 ∧ 12 ≤ s.rr)
    (hn : dM.view.dmaCredit = N) (hk : State m c K { s with wr := t.val + 1 } ⊢ Wp c (k ⟨⟩) P) :
    State m c K s ⊢ Wp c (.op (.waitDma2 (rsS t) sM dM hsrc hdst) k) P := by
  obtain ⟨h1, h2, h3⟩ := hs
  have ht := t.isLt
  have hu := use_rs t
  refine step m [.rFly t] [.rEnd t, .rSrc t] hk (by simp) (by simp) ?_ ?_
  · intro a
    cases a <;> simp only [held, List.mem_cons, List.not_mem_nil, Res.rFly.injEq, Res.rEnd.injEq, Res.rSrc.injEq,
      Fin.ext_iff, reduceCtorEq, or_false, false_or, or_self, not_false_eq_true, and_true, true_and, false_imp_iff, IsEmpty.forall_iff] <;> omega
  have hp : dmaPay m c (use (rsS t)) ⊢ rPts c (src t) full.left (rBuf m c) := by rw [hu]; exact .rfl
  simp only [sepL_cons, sepL_one, den]
  iintro ⟨#Hr, #Hl, Ho, Hc, Hat⟩ Hk
  iapply (wait_dma m (K := K) (s := s) (rsS t) N (by show 2 ≤ 2 + t.val; omega) (by rw [hu]; rfl) (by rw [hu]; rfl)
    (by rw [hu]; left; show 0 < s.nr + 2; omega) (by rw [hu]; left; show 0 < s.nl + 2; omega) (by rw [hu]; left; exact Nat.one_pos) hn) $$ [Ho Hc Hat]
  · isplitr; · iexact Hr
    isplitr; · iexact Hl
    isplitl [Ho]; · iexact Ho
    isplitl [Hc]; · iexact Hc
    iexact Hat
  iintro ⟨Ho, Hat, Hp⟩
  ihave Hp := hp $$ Hp
  iapply Hk
  isplitl [Ho]; · iexact Ho
  isplitl [Hat]; · iexact Hat
  iexact Hp
theorem step_doneL (t : Fin 12) (hs : s.wl = t.val ∧ s.nl = 12 ∧ 8 ≤ s.rl)
    (hn : dM.view.dmaCredit = N) (hk : State m c K { s with wl := t.val + 1 } ⊢ Wp c (k ⟨⟩) P) :
    State m c K s ⊢ Wp c (.op (.waitDma2 (lsS t) sM dM hsrc hdst) k) P := by
  obtain ⟨h1, h2, h3⟩ := hs
  have ht := t.isLt
  have hu := use_ls t
  refine step m [.lFly t] [.lEnd t, .lSrc t] hk (by simp) (by simp) ?_ ?_
  · intro a
    cases a <;> simp only [held, List.mem_cons, List.not_mem_nil, Res.lFly.injEq, Res.lEnd.injEq, Res.lSrc.injEq,
      Fin.ext_iff, reduceCtorEq, or_false, false_or, or_self, not_false_eq_true, and_true, true_and, false_imp_iff, IsEmpty.forall_iff] <;> omega
  have hp : dmaPay m c (use (lsS t)) ⊢ lsPts m c t := by rw [hu]; exact .rfl
  simp only [sepL_cons, sepL_one, den]
  iintro ⟨#Hr, #Hl, Ho, Hc, Hat⟩ Hk
  iapply (wait_dma m (K := K) (s := s) (lsS t) N (by show 2 ≤ 34 + t.val; omega) (by rw [hu]; rfl) (by rw [hu]; rfl)
    (by rw [hu]; left; show 0 < s.nr + 2; omega) (by rw [hu]; left; show 0 < s.nl + 2; omega) (by rw [hu]; left; exact Nat.one_pos) hn) $$ [Ho Hc Hat]
  · isplitr; · iexact Hr
    isplitr; · iexact Hl
    isplitl [Ho]; · iexact Ho
    isplitl [Hc]; · iexact Hc
    iexact Hat
  iintro ⟨Ho, Hat, Hp⟩
  ihave Hp := hp $$ Hp
  iapply Hk
  isplitl [Ho]; · iexact Ho
  isplitl [Hat]; · iexact Hat
  iexact Hp

end Waits

end Cert.Gather
end
-- ==== Proof.Steps2.lean ====
/- The kernel's operations as steps: the barrier, the copies out and the loads and stores. -/
module

public import Idealize.ShloMosaic.Lib.Pipeline.BigSepL
public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {c : Dev nD} {K : Dev nD × Fin 69 → ℕ} {s : St}
variable {α : Type} {P : α → sProp (MT nD τ sig Unit (Elt F) ℕ UU ℕ)}

/-! ## The barrier -/

theorem bigSepL_fin {n : ℕ} (e : Fin n → Res) (Φ : Res → sProp 𝕄) :
    bigSepL ((List.finRange n).map e) Φ = bigSep (Finset.univ : Finset (Fin n)) (fun t => Φ (e t)) := by
  rw [BI.bigSepL_map, bigSep_univ_eq_bigSepL (List.finRange n) (by ext; simp) (List.nodup_finRange n)]

/-- The unit to the left: with it the pieces the left neighbour's sends to the right fill. -/
theorem step_sigL (n : Dev nD) (hn : n = left c) (a : ℤ) (ha : a = ((1 : ℕ) : ℤ)) (hs : s.sg = 0 ∧ s.rr = 0)
    {k : PUnit → Prog (TpuEff nD τ sig (Elt F) Λ₀ .tc) α} (hk : State m c K { s with sg := 1 } ⊢ Wp c (k ⟨⟩) P) :
    State m c K s ⊢ Wp c (.op (.semSignal (n : Thread nD τ) barS a) k) P := by
  subst hn ha
  obtain ⟨h1, h2⟩ := hs
  refine step m ([Res.barL] ++ (List.finRange 16).map fun t => Res.rRaw (nx t)) [] hk (by decide) (by simp) ?_ ?_
  · intro a
    cases a
    case rRaw n =>
      have hn := n.isLt
      have hx : (Res.rRaw n ∈ [Res.barL] ++ (List.finRange 16).map fun t => Res.rRaw (nx t)) ↔ 4 ≤ n.val := by
        simp only [List.mem_append, List.mem_cons, List.not_mem_nil, reduceCtorEq, _root_.or_false, _root_.false_or, List.mem_map, List.mem_finRange, _root_.true_and, Res.rRaw.injEq]
        exact ⟨fun ⟨t, ht⟩ => ht ▸ Nat.le_add_left 4 t.val, fun h => ⟨⟨n.val - 4, by omega⟩, Fin.ext (by show n.val - 4 + 4 = n.val; omega)⟩⟩
      rw [hx]
      simp only [held, List.not_mem_nil, not_false_eq_true, _root_.and_true, false_imp_iff, _root_.true_and]
      omega
    all_goals
      simp only [held, List.mem_append, List.mem_cons, List.not_mem_nil, List.mem_map, List.mem_finRange, reduceCtorEq, _root_.and_false, exists_false,
        _root_.or_false, _root_.false_or, _root_.or_self, not_false_eq_true, _root_.and_true, _root_.true_and, false_imp_iff, not_true_eq_false, true_imp_iff, iff_false, false_iff, IsEmpty.forall_iff] <;> omega
  obtain ⟨κ, i⟩ := inv_bar m K (left c)
  unfold Ow
  rw [BI.bigSepL_append, bigSepL_fin, sepL_one, BI.bigSepL_nil, h1, owed_bar0,
    show den m c .barL = dutyTok ER (barCell (left c)) 0 false from rfl]
  iintro ⟨#Hr, -, ⟨%W, HO⟩, Ht, Hp⟩ Hk
  ihave H1 := i $$ Hr
  icases H1 with ⟨#I1, #R1⟩
  have hp : bigSep (Finset.univ : Finset (Fin 16)) (fun t => den m c (.rRaw (nx t))) ⊢ (rd (F := F) m).payload (barCell (left c)) 0 false := by
    rw [payload_bar]; unfold barPay; rw [if_neg (by decide), right_left]; exact .rfl
  ihave Hp := hp $$ Hp
  iapply (Rounds.wp_signal 𝒱₀ ER (rd m) (c : Thread nD τ) none (dst := (left c : Thread nD τ)) (κ := κ)
      (d := false) (by rw [duties_bar]; exact Finset.mem_univ _) (amount_bar m (left c) false) () (owed c 1 s.nr s.nl) rfl) $$ [HO Ht Hp]
  · isplitr; · iexact I1
    isplitl [HO]; · iexact HO
    isplitl [Ht]; · iexact Ht
    isplitl [Hp]; · iexact Hp
    iexact R1
  iintro HO
  iapply Hk
  isplitl [HO]; · iexists W; iexact HO
  iempintro

theorem step_sigR (n : Dev nD) (hn : n = right c) (a : ℤ) (ha : a = ((1 : ℕ) : ℤ)) (hs : s.sg = 1 ∧ s.rl = 0)
    {k : PUnit → Prog (TpuEff nD τ sig (Elt F) Λ₀ .tc) α} (hk : State m c K { s with sg := 2 } ⊢ Wp c (k ⟨⟩) P) :
    State m c K s ⊢ Wp c (.op (.semSignal (n : Thread nD τ) barS a) k) P := by
  subst hn ha
  obtain ⟨h1, h2⟩ := hs
  refine step m ([Res.barR] ++ (List.finRange 12).map fun t => Res.lRaw (lnx t)) [] hk (by decide) (by simp) ?_ ?_
  · intro a
    cases a
    case lRaw n =>
      have hn := n.isLt
      have hx : (Res.lRaw n ∈ [Res.barR] ++ (List.finRange 12).map fun t => Res.lRaw (lnx t)) ↔ 4 ≤ n.val := by
        simp only [List.mem_append, List.mem_cons, List.not_mem_nil, reduceCtorEq, _root_.or_false, _root_.false_or, List.mem_map, List.mem_finRange, _root_.true_and, Res.lRaw.injEq]
        exact ⟨fun ⟨t, ht⟩ => ht ▸ Nat.le_add_left 4 t.val, fun h => ⟨⟨n.val - 4, by omega⟩, Fin.ext (by show n.val - 4 + 4 = n.val; omega)⟩⟩
      rw [hx]
      simp only [held, List.not_mem_nil, not_false_eq_true, _root_.and_true, false_imp_iff, _root_.true_and]
      omega
    all_goals
      simp only [held, List.mem_append, List.mem_cons, List.not_mem_nil, List.mem_map, List.mem_finRange, reduceCtorEq, _root_.and_false, exists_false,
        _root_.or_false, _root_.false_or, _root_.or_self, not_false_eq_true, _root_.and_true, _root_.true_and, false_imp_iff, not_true_eq_false, true_imp_iff, iff_false, false_iff, IsEmpty.forall_iff] <;> omega
  obtain ⟨κ, i⟩ := inv_bar m K (right c)
  unfold Ow
  rw [BI.bigSepL_append, bigSepL_fin, sepL_one, BI.bigSepL_nil, h1, owed_bar1,
    show den m c .barR = dutyTok ER (barCell (right c)) 0 true from rfl]
  iintro ⟨#Hr, -, ⟨%W, HO⟩, Ht, Hp⟩ Hk
  ihave H1 := i $$ Hr
  icases H1 with ⟨#I1, #R1⟩
  have hp : bigSep (Finset.univ : Finset (Fin 12)) (fun t => den m c (.lRaw (lnx t))) ⊢ (rd (F := F) m).payload (barCell (right c)) 0 true := by
    rw [payload_bar]; unfold barPay; rw [if_pos rfl, left_right]; exact .rfl
  ihave Hp := hp $$ Hp
  iapply (Rounds.wp_signal 𝒱₀ ER (rd m) (c : Thread nD τ) none (dst := (right c : Thread nD τ)) (κ := κ)
      (d := true) (by rw [duties_bar]; exact Finset.mem_univ _) (amount_bar m (right c) true) () (owed c 2 s.nr s.nl) rfl) $$ [HO Ht Hp]
  · isplitr; · iexact I1
    isplitl [HO]; · iexact HO
    isplitl [Ht]; · iexact Ht
    isplitl [Hp]; · iexact Hp
    iexact R1
  iintro HO
  iapply Hk
  isplitl [HO]; · iexists W; iexact HO
  iempintro

/-- The wait for both neighbours: it brings the pieces this device's sends fill. -/
theorem step_barrier (a : ℤ) (ha : a = ((2 : ℕ) : ℤ)) (hs : s.bw = 0 ∧ s.sg = 2 ∧ s.nr = 0 ∧ s.nl = 0)
    {k : PUnit → Prog (TpuEff nD τ sig (Elt F) Λ₀ .tc) α} (hk : State m c K { s with bw := 1 } ⊢ Wp c (k ⟨⟩) P) :
    State m c K s ⊢ Wp c (.op (.semWait barS a) k) P := by
  subst ha
  obtain ⟨h1, h2, h3, h4⟩ := hs
  refine step m [Res.barW] ([Res.barD] ++ ((List.finRange 16).map Res.rDst ++ (List.finRange 12).map Res.lDst)) hk (by simp) (by decide) ?_ ?_
  · intro a
    cases a <;> simp only [held, List.mem_append, List.mem_cons, List.not_mem_nil, List.mem_map, List.mem_finRange, Res.rDst.injEq, Res.lDst.injEq, reduceCtorEq,
        exists_eq, _root_.and_false, exists_false, _root_.or_false, _root_.false_or, _root_.or_self, not_false_eq_true, _root_.and_true, _root_.true_and, false_imp_iff,
        _root_.or_true, not_true_eq_false, true_imp_iff, iff_false, false_iff, IsEmpty.forall_iff, exists_eq_right] <;> omega
  obtain ⟨κ, i⟩ := inv_bar m K c
  unfold Ow
  rw [BI.bigSepL_append, BI.bigSepL_append, bigSepL_fin, bigSepL_fin, sepL_one, sepL_one]
  simp only [den, h2]
  iintro ⟨#Hr, #Hl, ⟨%W, HO⟩, Hc, Hat⟩ Hk
  ihave H1 := i $$ Hr
  icases H1 with ⟨#I1, -⟩
  iapply (Rounds.wp_wait_rest_token 𝒱₀ ER (rd m) (c : Thread nD τ) none (κ := κ)
      (wpE_semWait_eq 𝒱₀ (c : Thread nD τ) none Set.univ) (Set.mem_univ _) () (O := owed c 2 s.nr s.nl) (W := W) (R := 0) (m := 0) (T := ∅)
      (by rw [expect_bar])) $$ [HO Hc Hat]
  · isplitr; · iexact I1
    isplitl [Hc]; · iexact Hc
    isplitl [HO]; · iexact HO
    isplitr
    · iapply (mayWait c (.reg barS) 2 s.nr s.nl (.inl (by show 1 < s.nr + 2; omega)) (.inl (by show 1 < s.nl + 2; omega)) (.inr (Nat.le_refl 2)))
      iexact Hl
    iexact Hat
  iintro ⟨HO, Hat, -, Hp⟩
  have hp : bigSep ((rd (F := F) m).duties (barCell c) 0 \ ∅) (fun d => (rd (F := F) m).payload (barCell c) 0 d)
      ⊢ iprop(bigSep (Finset.univ : Finset (Fin 16)) (fun t => iprop(∃ f, rPts (F := F) (right c) (nx t) full f))
        ∗ bigSep (Finset.univ : Finset (Fin 12)) (fun t => iprop(∃ f, lPts (F := F) (left c) (lnx t) full f))) := by
    rw [rest_bar]; unfold barPay; rw [if_neg (by decide), if_pos rfl]
  ihave Hp := hp $$ Hp
  iapply Hk
  isplitl [HO]; · iexists _; iexact HO
  isplitl [Hat]; · iexact Hat
  iexact Hp

/-! ## Copies out -/

theorem step_copy (i : Fin 7) (dM : Memref sig .tc .hbm S1536x1536 .f32) (ho : dM = oP (org i.val c))
    (hs : s.ci = i.val ∧ i.val < s.cs ∧ s.cw ≤ i.val)
    {hsrc : (cP (slot i)).view.WordExact} {hdst : dM.view.WordExact}
    {hsem : DmaTarget.Typed (nD := nD) .vmem (.dma (cpS i)) (.here (p := .tc) dM)}
    {k : PUnit → Prog (TpuEff nD τ sig (Elt F) Λ₀ .tc) α} (hk : State m c K { s with ci := i.val + 1 } ⊢ Wp c (k ⟨⟩) P) :
    State m c K s ⊢ Wp c (.op (.enqueueDma (cP (slot i)) (.here dM)
      (.dma (cpS i)) hsrc hdst hsem) k) P := by
  subst ho
  obtain ⟨h1, h2, h3⟩ := hs
  have hi := i.isLt
  have hu := use_cp i
  refine step m [.cTok i, .cHold i] [.cFly i] hk (by simp) (by simp) ?_ ?_
  · intro a
    cases a <;> simp only [held, List.mem_cons, List.not_mem_nil, Res.cTok.injEq, Res.cHold.injEq, Res.cFly.injEq,
      Fin.ext_iff, reduceCtorEq, _root_.or_false, _root_.false_or, _root_.or_self, not_false_eq_true, _root_.and_true, _root_.true_and, false_imp_iff, not_true_eq_false, true_imp_iff, iff_false, false_iff, IsEmpty.forall_iff] <;> omega
  obtain ⟨κ, iv⟩ := inv_dma m K c (cpS i) (by show 2 ≤ 58 + i.val; omega)
  unfold Ow
  simp only [sepL_cons, sepL_one, den]
  iintro ⟨#Hr, -, HO, ⟨Ht, Hat, ⟨%fd, Hd⟩⟩, Hs⟩ Hk
  ihave H1 := iv $$ Hr
  icases H1 with ⟨#I1, #R1⟩
  have hpay : iprop(((oP (org i.val c)).view.loc (c : Thread nD τ) ↦[(oP (org i.val c)).view.set]{full} ((oP (org i.val c)).view.write (Elt F) fd ((cP (slot i)).view.read (Elt F) (cBuf m c i)) Finset.univ))
      ∗ ((cP (slot i)).view.loc (c : Thread nD τ) ↦[(cP (slot i)).view.set]{full} cBuf m c i)) ⊢ (rd (F := F) m).payload (dmaCell c (cpS i)) 0 false := by
    rw [payload_dma, hu]
    show _ ⊢ iprop(oPts c i (oFin m c) ∗ ∃ f, cPts (F := F) c (slot i) f)
    unfold oPts cPts
    iintro ⟨Ho, Hc⟩
    isplitl [Ho]
    · iapply (Entails.of_eq (pointsTo_congr fun x hx => land_block m c (slot i) i fd x hx)); iexact Ho
    iexists _; iexact Hc
  have hN : (oP (org i.val c)).view.amount (.dma (cpS i)) = NC := by exact oP_credit (org i.val c)
  have hA : (rd (F := F) m).amount (dmaCell c (cpS i)) 0 false = NC := by rw [amount_dma, hu]; rfl
  have hD : false ∈ (rd (F := F) m).duties (dmaCell c (cpS i)) 0 := by rw [duties_dma, hu]; exact Finset.mem_singleton_self _
  have key := Rounds.wp_copy_pointsTo (src := cP (slot i)) (dst := oP (org i.val c)) (sem := .dma (cpS i)) (hsrc := hsrc) (hdst := hdst) (hsem := hsem)
    (k := k) (Q := P) (defs := defs₀ (F := F)) 𝒱₀ ER (rd m) (c : Thread nD τ) none (κ := κ) (r := 0) (d := false) (q := full) (fd := fd)
    (fs := cBuf m c i) hD () NC hN hA hpay (Es := Set.univ) (Γ := .empty)
  unfold oPts cPts
  iapply key $$ [Hs Hd Ht]
  · isplitr; · iexact I1
    isplitl [Hs]; · iexact Hs
    isplitl [Hd]; · iexact Hd
    isplitl [Ht]; · iexact Ht
    iexact R1
  iintro Hc
  iapply Hk
  isplitl [HO]; · iexact HO
  isplitl [Hc]; · iexact Hc
  iexact Hat

theorem step_copyS (p : Fin 4) (dM : Memref sig .tc .hbm S384x1536 .f32) (ho : dM = pP (opp c) p)
    (hs : s.ci = 7 + p.val ∧ 7 + p.val < s.cs ∧ s.cw ≤ 7 + p.val)
    {hsrc : (sP p).view.WordExact} {hdst : dM.view.WordExact}
    {hsem : DmaTarget.Typed (nD := nD) .vmem (.dma (spS p)) (.here (p := .tc) dM)}
    {k : PUnit → Prog (TpuEff nD τ sig (Elt F) Λ₀ .tc) α} (hk : State m c K { s with ci := 8 + p.val } ⊢ Wp c (k ⟨⟩) P) :
    State m c K s ⊢ Wp c (.op (.enqueueDma (sP p) (.here dM)
      (.dma (spS p)) hsrc hdst hsem) k) P := by
  subst ho
  obtain ⟨h1, h2, h3⟩ := hs
  have hi := p.isLt
  have hu := use_sp p
  refine step m [.sTok p, .sHold p] [.sFly p] hk (by simp) (by simp) ?_ ?_
  · intro a
    cases a <;> simp only [held, List.mem_cons, List.not_mem_nil, Res.sTok.injEq, Res.sHold.injEq, Res.sFly.injEq,
      Fin.ext_iff, reduceCtorEq, _root_.or_false, _root_.false_or, _root_.or_self, not_false_eq_true, _root_.and_true, _root_.true_and, false_imp_iff, not_true_eq_false, true_imp_iff, iff_false, false_iff, IsEmpty.forall_iff] <;> omega
  obtain ⟨κ, iv⟩ := inv_dma m K c (spS p) (by show 2 ≤ 65 + p.val; omega)
  unfold Ow
  simp only [sepL_cons, sepL_one, den]
  iintro ⟨#Hr, -, HO, ⟨Ht, Hat, ⟨%fd, Hd⟩⟩, Hs⟩ Hk
  ihave H1 := iv $$ Hr
  icases H1 with ⟨#I1, #R1⟩
  have hpay : iprop(((pP (opp c) p).view.loc (c : Thread nD τ) ↦[(pP (opp c) p).view.set]{full} ((pP (opp c) p).view.write (Elt F) fd ((sP p).view.read (Elt F) (sBuf m c p)) Finset.univ))
      ∗ ((sP p).view.loc (c : Thread nD τ) ↦[(sP p).view.set]{full} sBuf m c p)) ⊢ (rd (F := F) m).payload (dmaCell c (spS p)) 0 false := by
    rw [payload_dma, hu]
    show _ ⊢ iprop(pPts c p (oFin m c) ∗ ∃ f, sPts (F := F) c p f)
    unfold pPts sPts
    iintro ⟨Ho, Hc⟩
    isplitl [Ho]
    · iapply (Entails.of_eq (pointsTo_congr fun x hx => land_sub m c p fd x hx)); iexact Ho
    iexists _; iexact Hc
  have hN : (pP (opp c) p).view.amount (.dma (spS p)) = NS := by exact pP_credit (opp c) p
  have hA : (rd (F := F) m).amount (dmaCell c (spS p)) 0 false = NS := by rw [amount_dma, hu]; rfl
  have hD : false ∈ (rd (F := F) m).duties (dmaCell c (spS p)) 0 := by rw [duties_dma, hu]; exact Finset.mem_singleton_self _
  have key := Rounds.wp_copy_pointsTo (src := sP p) (dst := pP (opp c) p) (sem := .dma (spS p)) (hsrc := hsrc) (hdst := hdst) (hsem := hsem)
    (k := k) (Q := P) (defs := defs₀ (F := F)) 𝒱₀ ER (rd m) (c : Thread nD τ) none (κ := κ) (r := 0) (d := false) (q := full) (fd := fd)
    (fs := sBuf m c p) hD () NS hN hA hpay (Es := Set.univ) (Γ := .empty)
  unfold pPts sPts
  iapply key $$ [Hs Hd Ht]
  · isplitr; · iexact I1
    isplitl [Hs]; · iexact Hs
    isplitl [Hd]; · iexact Hd
    isplitl [Ht]; · iexact Ht
    iexact R1
  iintro Hc
  iapply Hk
  isplitl [HO]; · iexact HO
  isplitl [Hc]; · iexact Hc
  iexact Hat

/-! Their completions: the block of the result, and the slot back. -/

section Waits
variable {sp sp' : Space} {z z' : Shape} {e e' : EltTy} {sM : Memref sig .tc sp' z' e'} {dM : Memref sig .tc sp z e}
  {hsrc : sM.view.WordExact} {hdst : dM.view.WordExact} {k : PUnit → Prog (TpuEff nD τ sig (Elt F) Λ₀ .tc) α}

omit [FloatOps F] in
/-- The second slot in quarters. -/
theorem cPts_quarters (c : Dev nD) (f : Vec F S2x1536x1536 .f32) :
    cPts c 1 f ⊢ bigSep (Finset.univ : Finset (Fin 4)) (fun p => sPts c p f) := by
  unfold cPts sPts
  have hcover : (cP 1).view.set = (Finset.univ : Finset (Fin 4)).biUnion fun p => (sP p).view.set := by
    rw [cP_set]
    refine Finset.ext fun x => ?_
    have h1 : (x 1).val < 1536 := (x 1).isLt
    rw [Finset.mem_biUnion]
    constructor
    · intro h
      have h0 := (mem_cR 1 x).mp h
      refine ⟨⟨(x 1).val / 384, by omega⟩, Finset.mem_univ _, ?_⟩
      rw [sP_set]
      refine (mem_sR ⟨(x 1).val / 384, by omega⟩ x).mpr ⟨h0, ?_, ?_⟩
      · show 384 * ((x 1).val / 384) ≤ _; omega
      · show _ < 384 * ((x 1).val / 384) + 384; omega
    · rintro ⟨p, -, hp⟩
      rw [sP_set] at hp
      exact (mem_cR 1 x).mpr ((mem_sR p x).mp hp).1
  have hdisj : ∀ p ∈ (Finset.univ : Finset (Fin 4)), ∀ q ∈ (Finset.univ : Finset (Fin 4)), p ≠ q → Disjoint (sP p).view.set (sP q).view.set := by
    intro p _ q _ hpq
    rw [sP_set, sP_set, Finset.disjoint_left]
    intro x hp hq
    have a := (mem_sR p x).mp hp
    have b := (mem_sR q x).mp hq
    exact hpq (Fin.ext (by omega))
  exact Entails.of_eq ((congrArg (fun S => ((cP 1).view.loc (c : Thread nD τ) ↦[S]{full} f : sProp 𝕄)) hcover).trans (pointsTo_biUnion _ _ hdisj))

/-- A slot comes back whole, except the second after its last whole block. -/
theorem step_copied (i : Fin 7) (hi5 : i.val ≠ 5)
    (hs : s.cw = i.val ∧ i.val < s.ci ∧ s.ci ≤ s.cs ∧ (s.cs ≤ i.val + 2 ∨ i.val = 6))
    (hn : dM.view.dmaCredit = NC) (hk : State m c K { s with cw := i.val + 1 } ⊢ Wp c (k ⟨⟩) P) :
    State m c K s ⊢ Wp c (.op (.waitDma2 (cpS i) sM dM hsrc hdst) k) P := by
  obtain ⟨h1, h2, h3, h4⟩ := hs
  have hi := i.isLt
  have hu := use_cp i
  refine step m [.cFly i] [.cEnd i, .cRaw (slot i)] hk (by simp) (by simp) ?_ ?_
  · intro a
    cases a <;> simp only [held, List.mem_cons, List.not_mem_nil, Res.cFly.injEq, Res.cEnd.injEq, Res.cRaw.injEq,
      Fin.ext_iff, reduceCtorEq, _root_.or_false, _root_.false_or, _root_.or_self, not_false_eq_true, _root_.and_true, _root_.true_and, false_imp_iff, not_true_eq_false, true_imp_iff, iff_false, false_iff, IsEmpty.forall_iff] <;> omega
  have hp : dmaPay m c (use (cpS i)) ⊢ iprop(oPts c i (oFin m c) ∗ ∃ f, cPts (F := F) c (slot i) f) := by rw [hu]; exact .rfl
  simp only [sepL_cons, sepL_one, den]
  iintro ⟨#Hr, #Hl, Ho, Hc, Hat⟩ Hk
  iapply (wait_dma m (K := K) (s := s) (cpS i) NC (by show 2 ≤ 58 + i.val; omega) (by rw [hu]; rfl) (by rw [hu]; rfl)
    (by rw [hu]; left; show 0 < s.nr + 2; omega) (by rw [hu]; left; show 0 < s.nl + 2; omega) (by rw [hu]; left; exact Nat.one_pos) hn) $$ [Ho Hc Hat]
  · isplitr; · iexact Hr
    isplitr; · iexact Hl
    isplitl [Ho]; · iexact Ho
    isplitl [Hc]; · iexact Hc
    iexact Hat
  iintro ⟨Ho, Hat, Hp⟩
  ihave Hp := hp $$ Hp
  icases Hp with ⟨Hp, Hq⟩
  iapply Hk
  isplitl [Ho]; · iexact Ho
  isplitr [Hq]
  · isplitl [Hat]; · iexact Hat
    iexact Hp
  iexact Hq

/-- After its last whole block the second slot comes back in quarters. -/
theorem step_copied5 (hs : s.cw = 5 ∧ 5 < s.ci ∧ s.ci ≤ s.cs ∧ s.cs = 7)
    (hn : dM.view.dmaCredit = NC) (hk : State m c K { s with cw := 6 } ⊢ Wp c (k ⟨⟩) P) :
    State m c K s ⊢ Wp c (.op (.waitDma2 (cpS 5) sM dM hsrc hdst) k) P := by
  obtain ⟨h1, h2, h3, h4⟩ := hs
  have hu := use_cp 5
  refine step m [.cFly 5] [.cEnd 5, .sRaw 0, .sRaw 1, .sRaw 2, .sRaw 3] hk (by simp) (by simp) ?_ ?_
  · intro a
    cases a with
    | sRaw p =>
      have hp : p = 0 ∨ p = 1 ∨ p = 2 ∨ p = 3 := by revert p; decide
      simp only [held, List.mem_cons, List.not_mem_nil, Res.sRaw.injEq, reduceCtorEq, _root_.or_false, _root_.false_or, hp,
        not_false_eq_true, _root_.and_true, _root_.true_and, not_true_eq_false, true_imp_iff, _root_.and_false, iff_false, IsEmpty.forall_iff]
      omega
    | _ =>
      simp only [held, List.mem_cons, List.not_mem_nil, Res.cFly.injEq, Res.cEnd.injEq, Fin.ext_iff, Fin.val_ofNat, reduceCtorEq,
        _root_.or_false, _root_.false_or, _root_.or_self, not_false_eq_true, _root_.and_true, _root_.true_and, false_imp_iff, not_true_eq_false, true_imp_iff, iff_false, false_iff, IsEmpty.forall_iff] <;> omega
  have hp : dmaPay m c (use (cpS 5)) ⊢ iprop(oPts c 5 (oFin m c) ∗ ∃ f, cPts (F := F) c 1 f) := by rw [hu]; exact .rfl
  have hq (f : Vec F S2x1536x1536 .f32) : cPts c 1 f ⊢ iprop(sPts c 0 f ∗ sPts c 1 f ∗ sPts c 2 f ∗ sPts c 3 f) := by
    refine (cPts_quarters c f).trans ?_
    rw [bigSep_univ_eq_bigSepL [0, 1, 2, 3] (by decide) (by decide)]
    exact .rfl
  simp only [sepL_cons, sepL_one, den]
  iintro ⟨#Hr, #Hl, Ho, Hc, Hat⟩ Hk
  iapply (wait_dma m (K := K) (s := s) (cpS 5) NC (by decide) (by rw [hu]; rfl) (by rw [hu]; rfl)
    (by rw [hu]; left; show 0 < s.nr + 2; omega) (by rw [hu]; left; show 0 < s.nl + 2; omega) (by rw [hu]; left; exact Nat.one_pos) hn) $$ [Ho Hc Hat]
  · isplitr; · iexact Hr
    isplitr; · iexact Hl
    isplitl [Ho]; · iexact Ho
    isplitl [Hc]; · iexact Hc
    iexact Hat
  iintro ⟨Ho, Hat, Hp⟩
  ihave Hp := hp $$ Hp
  icases Hp with ⟨Hp, ⟨%f, Hq⟩⟩
  ihave Hq := (hq f) $$ Hq
  icases Hq with ⟨H0, H1, H2, H3⟩
  iapply Hk
  isplitl [Ho]; · iexact Ho
  isplitl [Hat Hp]
  · isplitl [Hat]; · iexact Hat
    iexact Hp
  isplitl [H0]; · iexists _; iexact H0
  isplitl [H1]; · iexists _; iexact H1
  isplitl [H2]; · iexists _; iexact H2
  iexists _; iexact H3

theorem step_copiedS (p : Fin 4) (hs : s.cw = 7 + p.val ∧ 7 + p.val < s.ci ∧ s.ci ≤ s.cs)
    (hn : dM.view.dmaCredit = NS) (hk : State m c K { s with cw := 8 + p.val } ⊢ Wp c (k ⟨⟩) P) :
    State m c K s ⊢ Wp c (.op (.waitDma2 (spS p) sM dM hsrc hdst) k) P := by
  obtain ⟨h1, h2, h3⟩ := hs
  have hi := p.isLt
  have hu := use_sp p
  refine step m [.sFly p] [.sEnd p, .sRaw p] hk (by simp) (by simp) ?_ ?_
  · intro a
    cases a <;> simp only [held, List.mem_cons, List.not_mem_nil, Res.sFly.injEq, Res.sEnd.injEq, Res.sRaw.injEq,
      Fin.ext_iff, reduceCtorEq, _root_.or_false, _root_.false_or, _root_.or_self, not_false_eq_true, _root_.and_true, _root_.true_and, false_imp_iff, not_true_eq_false, true_imp_iff, iff_false, false_iff, IsEmpty.forall_iff] <;> omega
  have hp : dmaPay m c (use (spS p)) ⊢ iprop(pPts c p (oFin m c) ∗ ∃ f, sPts (F := F) c p f) := by rw [hu]; exact .rfl
  simp only [sepL_cons, sepL_one, den]
  iintro ⟨#Hr, #Hl, Ho, Hc, Hat⟩ Hk
  iapply (wait_dma m (K := K) (s := s) (spS p) NS (by show 2 ≤ 65 + p.val; omega) (by rw [hu]; rfl) (by rw [hu]; rfl)
    (by rw [hu]; left; show 0 < s.nr + 2; omega) (by rw [hu]; left; show 0 < s.nl + 2; omega) (by rw [hu]; left; exact Nat.one_pos) hn) $$ [Ho Hc Hat]
  · isplitr; · iexact Hr
    isplitr; · iexact Hl
    isplitl [Ho]; · iexact Ho
    isplitl [Hc]; · iexact Hc
    iexact Hat
  iintro ⟨Ho, Hat, Hp⟩
  ihave Hp := hp $$ Hp
  icases Hp with ⟨Hp, Hq⟩
  iapply Hk
  isplitl [Ho]; · iexact Ho
  isplitr [Hq]
  · isplitl [Hat]; · iexact Hat
    iexact Hp
  iexact Hq

end Waits

end Cert.Gather
end
-- ==== Proof.Steps3.lean ====
/- The kernel's operations, each as a step between the states of `State`: the loads and the stores. -/
module

public import Idealize.ShloMosaic.Lib.Pipeline.BigSepL
public import proofs.«01_k».proof.Proof.Steps2

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {c : Dev nD} {K : Dev nD × Fin 69 → ℕ} {s : St}
variable {α : Type} {P : α → sProp (MT nD τ sig Unit (Elt F) ℕ UU ℕ)}

theorem wand_at {X : Type} (A : sProp 𝕄) (Φ : X → sProp 𝕄) (x : X) : iprop(A -∗ ∀ x, Φ x) ⊢ iprop(A -∗ Φ x) := wand_mono_right (forall_elim x)

/-! ## Loads and stores of a piece held by itself -/

section Access
variable {k : PUnit → Prog (TpuEff nD τ sig (Elt F) Λ₀ .tc) α}

theorem load_rP (n : Fin 20) (q : Sh) (f : Vec F S5x1536x768 .i8) {hl : rM.view.LoadsAt (rR n).toLoadRect}
    {k : Vec F S1x384x768 .i8 → Prog (TpuEff nD τ sig (Elt F) Λ₀ .tc) α} :
    rPts c n q f ⊢ iprop((rPts c n q f -∗ Wp c (k (rM.view.readAt (Elt F) (rR n).toLoadRect f)) P)
      -∗ Wp c (.op (.load rM (rR n).toLoadRect hl) k) P) := by
  unfold rPts
  exact wp_load_rect 𝒱₀ (c : Thread nD τ) none Set.univ (m := rM) (r := rR n) (S := (rP n).view.set)
    (by rw [rP_set]; exact (View.set_slice_whole _ _).subset)
theorem load_cP (p : Fin 2) (f : Vec F S2x1536x1536 .f32) {hl : cM.view.LoadsAt (cR p).toLoadRect}
    {k : Vec F S1x1536x1536 .f32 → Prog (TpuEff nD τ sig (Elt F) Λ₀ .tc) α} :
    cPts c p f ⊢ iprop((cPts c p f -∗ Wp c (k (cM.view.readAt (Elt F) (cR p).toLoadRect f)) P)
      -∗ Wp c (.op (.load cM (cR p).toLoadRect hl) k) P) := by
  unfold cPts
  exact wp_load_rect 𝒱₀ (c : Thread nD τ) none Set.univ (m := cM) (r := cR p) (S := (cP p).view.set)
    (by rw [cP_set]; exact (View.set_slice_whole _ _).subset)
theorem load_sP (p : Fin 4) (f : Vec F S2x1536x1536 .f32) {hl : cM.view.LoadsAt (sR p).toLoadRect}
    {k : Vec F S1x384x1536 .f32 → Prog (TpuEff nD τ sig (Elt F) Λ₀ .tc) α} :
    sPts c p f ⊢ iprop((sPts c p f -∗ Wp c (k (cM.view.readAt (Elt F) (sR p).toLoadRect f)) P)
      -∗ Wp c (.op (.load cM (sR p).toLoadRect hl) k) P) := by
  unfold sPts
  exact wp_load_rect 𝒱₀ (c : Thread nD τ) none Set.univ (m := cM) (r := sR p) (S := (sP p).view.set)
    (by rw [sP_set]; exact (View.set_slice_whole _ _).subset)

theorem store_rP (n : Fin 20) (f : Vec F S5x1536x768 .i8) (w : Vec F S1x384x768 .i8) {hx : (rM.access (rR n)).Stores Finset.univ}
    {hm : (Finset.univ : Finset (rR n).shape.Idx) = Finset.univ ∨ ∀ a, (rR n).stride a = 1} :
    rPts c n full f ⊢ iprop((rPts c n full ((rM.access (rR n)).write (Elt F) f w Finset.univ) -∗ Wp c (k ⟨⟩) P)
      -∗ Wp c (.op (.store rM (rR n) w Finset.univ hx hm) k) P) := by
  unfold rPts
  exact wp_store 𝒱₀ (c : Thread nD τ) none Set.univ (m := rM) (r := rR n) (S := (rP n).view.set)
    (by rw [rP_set]; exact (View.set_slice_whole _ _).subset)
theorem store_cP (p : Fin 2) (f : Vec F S2x1536x1536 .f32) (w : Vec F S1x1536x1536 .f32) {hx : (cM.access (cR p)).Stores Finset.univ}
    {hm : (Finset.univ : Finset (cR p).shape.Idx) = Finset.univ ∨ ∀ a, (cR p).stride a = 1} :
    cPts c p f ⊢ iprop((cPts c p ((cM.access (cR p)).write (Elt F) f w Finset.univ) -∗ Wp c (k ⟨⟩) P)
      -∗ Wp c (.op (.store cM (cR p) w Finset.univ hx hm) k) P) := by
  unfold cPts
  exact wp_store 𝒱₀ (c : Thread nD τ) none Set.univ (m := cM) (r := cR p) (S := (cP p).view.set)
    (by rw [cP_set]; exact (View.set_slice_whole _ _).subset)
theorem store_sP (p : Fin 4) (f : Vec F S2x1536x1536 .f32) (w : Vec F S1x384x1536 .f32) {hx : (cM.access (sR p)).Stores Finset.univ}
    {hm : (Finset.univ : Finset (sR p).shape.Idx) = Finset.univ ∨ ∀ a, (sR p).stride a = 1} :
    sPts c p f ⊢ iprop((sPts c p ((cM.access (sR p)).write (Elt F) f w Finset.univ) -∗ Wp c (k ⟨⟩) P)
      -∗ Wp c (.op (.store cM (sR p) w Finset.univ hx hm) k) P) := by
  unfold sPts
  exact wp_store 𝒱₀ (c : Thread nD τ) none Set.univ (m := cM) (r := sR p) (S := (sP p).view.set)
    (by rw [sP_set]; exact (View.set_slice_whole _ _).subset)

end Access

/-! ## A device's own rows, and `B` -/

abbrev wR : Rect S768x1536 := Rect.unit (s := S768x1536) ![0, 0] S768x1536.size (by decide)
theorem z2 : (![0, 0] : Fin 2 → ℕ) = fun _ => 0 := by funext a; revert a; decide

/-- A quarter of the device's rows. -/
theorem step_loadA (j : Fin 4) {hl : aM.view.LoadsAt (aR j).toLoadRect}
    {k : Vec F S384x768 .f32 → Prog (TpuEff nD τ sig (Elt F) Λ₀ .tc) α} (hk : State m c K s ⊢ Wp c (k (aRows m c j)) P) :
    State m c K s ⊢ Wp c (.op (.load aM (aR j).toLoadRect hl) k) P := by
  refine look m [.aStg] hk (by simp) (by simp [held]) ?_
  simp only [sepL_one, den]
  exact wp_load_rect 𝒱₀ (c : Thread nD τ) none Set.univ (m := aM) (r := aR j) (S := Finset.univ) (Finset.subset_univ _)

theorem step_loadB {hl : bM.view.LoadsAt wR.toLoadRect} {k : Vec F S768x1536 .f32 → Prog (TpuEff nD τ sig (Elt F) Λ₀ .tc) α}
    (hk : State m c K s ⊢ Wp c (k (bB m c)) P) : State m c K s ⊢ Wp c (.op (.load bM wR.toLoadRect hl) k) P := by
  refine look m [.bStg] hk (by simp) (by simp [held]) ?_
  simp only [sepL_one, den]
  have h := wp_load 𝒱₀ (defs := defs₀ (F := F)) (c : Thread nD τ) none Set.univ (Γ := .empty) (Q := P) (m := bM) (r := wR.toLoadRect) (hl := hl) (k := k) (q := full)
    (f := bB m c) (S := Finset.univ) (Finset.subset_univ _)
  rw [show bM.view.readAt (Elt F) wR.toLoadRect (bB m c) = bB m c from Memref.readAt_unit_zero (Elt F) cc0_stg1_0 z2 _ _] at h
  exact h

/-- The scratch that is to hold the scaled `B`, looked at before it is filled; -/
theorem step_peekW (hs : s.b = 0) {hl : bbM.view.LoadsAt wR.toLoadRect} {k : Vec F S768x1536 .bf16 → Prog (TpuEff nD τ sig (Elt F) Λ₀ .tc) α}
    (hk : ∀ x, State m c K s ⊢ Wp c (k x) P) : State m c K s ⊢ Wp c (.op (.load bbM wR.toLoadRect hl) k) P := by
  refine look m (p' := iprop(∀ x, Wp c (k x) P)) [.bRaw] (forall_intro hk) (by simp) (by simp [held, hs]) ?_
  simp only [sepL_one, den]
  unfold bbPts
  iintro ⟨%f, Hf⟩ Hk
  iapply (wp_load 𝒱₀ (c : Thread nD τ) none Set.univ (m := bbM) (S := Finset.univ) (Finset.subset_univ _)) $$ Hf
  iintro Hf
  ihave Hk := (wand_at _ _ _) $$ Hk
  iapply Hk
  iexists f
  iexact Hf

/-- filled; -/
theorem step_storeW (w : Vec F S768x1536 .bf16) (hw : w = bb m c) (hs : s.b = 0) {hx : (bbM.access wR).Stores Finset.univ}
    {hm : (Finset.univ : Finset wR.shape.Idx) = Finset.univ ∨ ∀ a, wR.stride a = 1}
    {k : PUnit → Prog (TpuEff nD τ sig (Elt F) Λ₀ .tc) α} (hk : State m c K { s with b := 1 } ⊢ Wp c (k ⟨⟩) P) :
    State m c K s ⊢ Wp c (.op (.store bbM wR w Finset.univ hx hm) k) P := by
  subst hw
  refine step m [.bRaw] [.bHold] hk (by simp) (by simp) ?_ ?_
  · intro a
    cases a <;> simp only [held, List.mem_cons, List.not_mem_nil, hs, eq_self, Nat.lt_irrefl, Nat.lt_one_iff, Fin.ext_iff, reduceCtorEq,
      _root_.or_false, _root_.false_or, _root_.or_self, not_false_eq_true, _root_.and_true, _root_.true_and, false_imp_iff, not_true_eq_false,
      true_imp_iff, iff_false, false_iff, IsEmpty.forall_iff] <;> omega
  unfold Ow
  simp only [sepL_one, den]
  unfold bbPts
  iintro ⟨-, -, HO, ⟨%f, Hf⟩⟩ Hk
  have h := wp_store 𝒱₀ (defs := defs₀ (F := F)) (c : Thread nD τ) none Set.univ (Γ := .empty) (Q := P) (m := bbM) (r := wR) (w := bb m c) (Mk := Finset.univ)
    (hx := hx) (hm := hm) (k := k) (f := f) (S := Finset.univ) (Finset.subset_univ _)
  rw [show (bbM.access wR).write (Elt F) f (bb m c) Finset.univ = bb m c from Memref.write_access_unit_zero_univ (Elt F) cc0_scratch2 z2 _ _ _] at h
  iapply h $$ Hf
  iintro Hf
  iapply Hk
  isplitl [HO]; · iexact HO
  iexact Hf

/-- and read. -/
theorem step_loadW (hs : 0 < s.b) {hl : bbM.view.LoadsAt wR.toLoadRect} {k : Vec F S768x1536 .bf16 → Prog (TpuEff nD τ sig (Elt F) Λ₀ .tc) α}
    (hk : State m c K s ⊢ Wp c (k (bb m c)) P) : State m c K s ⊢ Wp c (.op (.load bbM wR.toLoadRect hl) k) P := by
  refine look m [.bHold] hk (by simp) (by simpa [held] using hs) ?_
  simp only [sepL_one, den]
  unfold bbPts
  have h := wp_load 𝒱₀ (defs := defs₀ (F := F)) (c : Thread nD τ) none Set.univ (Γ := .empty) (Q := P) (m := bbM) (r := wR.toLoadRect) (hl := hl) (k := k) (q := full)
    (f := bb m c) (S := Finset.univ) (Finset.subset_univ _)
  rw [show bbM.view.readAt (Elt F) wR.toLoadRect (bb m c) = bb m c from Memref.readAt_unit_zero (Elt F) cc0_scratch2 z2 _ _] at h
  exact h

/-! ## The quantised quarters -/

abbrev fst16 (j : Fin 4) : Fin 16 := ⟨j.val, by omega⟩

theorem step_peekQ (j : Fin 4) (hs : s.q ≤ j.val) {hl : rM.view.LoadsAt (rR (fst20 j)).toLoadRect}
    {k : Vec F S1x384x768 .i8 → Prog (TpuEff nD τ sig (Elt F) Λ₀ .tc) α} (hk : ∀ x, State m c K s ⊢ Wp c (k x) P) :
    State m c K s ⊢ Wp c (.op (.load rM (rR (fst20 j)).toLoadRect hl) k) P := by
  refine look m (p' := iprop(∀ x, Wp c (k x) P)) [.rRaw (fst20 j)] (forall_intro hk) (by simp)
    (by simp only [List.mem_singleton, forall_eq]; exact .inl ⟨j.isLt, hs⟩) ?_
  simp only [sepL_one, den]
  iintro ⟨%f, Hf⟩ Hk
  iapply (load_rP (fst20 j) full f) $$ Hf
  iintro Hf
  ihave Hk := (wand_at _ _ _) $$ Hk
  iapply Hk
  iexists f
  iexact Hf

/-- A quarter stored: a share for each of the two sends, and one to load. -/
theorem step_storeQ (j : Fin 4) (w : Vec F S1x384x768 .i8) (hw : w = qz (aRows m c j))
    (hs : s.q = j.val ∧ s.nr ≤ j.val ∧ s.nl ≤ j.val ∧ s.wr = 0 ∧ s.wl = 0)
    {hx : (rM.access (rR (fst20 j))).Stores Finset.univ}
    {hm : (Finset.univ : Finset (rR (fst20 j)).shape.Idx) = Finset.univ ∨ ∀ a, (rR (fst20 j)).stride a = 1}
    {k : PUnit → Prog (TpuEff nD τ sig (Elt F) Λ₀ .tc) α} (hk : State m c K { s with q := j.val + 1 } ⊢ Wp c (k ⟨⟩) P) :
    State m c K s ⊢ Wp c (.op (.store rM (rR (fst20 j)) w Finset.univ hx hm) k) P := by
  subst hw
  obtain ⟨h1, h2, h3, h4, h5⟩ := hs
  have hj := j.isLt
  refine step m [.rRaw (fst20 j)] [.rKeep (fst20 j), .rSrc (fst16 j), .lSrc (fst12 j)] hk (by simp) (by simp) ?_ ?_
  · intro a
    cases a <;> simp only [held, List.mem_cons, List.not_mem_nil, Res.rRaw.injEq, Res.rKeep.injEq, Res.rSrc.injEq, Res.lSrc.injEq, Fin.ext_iff, reduceCtorEq,
      _root_.or_false, _root_.false_or, _root_.or_self, not_false_eq_true, _root_.and_true, _root_.true_and, false_imp_iff, not_true_eq_false,
      true_imp_iff, iff_false, false_iff, IsEmpty.forall_iff] <;> omega
  have hw (f : Vec F S5x1536x768 .i8) : rPts c (fst20 j) full ((rM.access (rR (fst20 j))).write (Elt F) f (qz (aRows m c j)) Finset.univ)
      ⊢ iprop(rPts c (fst20 j) full.right.right (rBuf m c) ∗ rPts c (src (fst16 j)) full.left (rBuf m c) ∗ rPts c (fst20 j) full.right.left (rBuf m c)) := by
    have h0 : rPts c (fst20 j) full ((rM.access (rR (fst20 j))).write (Elt F) f (qz (aRows m c j)) Finset.univ)
        ⊢ rPts c (fst20 j) full (rBuf m c) := by
      unfold rPts
      exact Entails.of_eq (pointsTo_congr fun i hi => store_quant m c j f i (by rw [View.set_slice_whole]; rwa [rP_set] at hi))
    refine h0.trans ((rPts_halves c _ full _).trans ?_)
    iintro ⟨Ha, Hb⟩
    ihave Hb := (rPts_halves c (fst20 j) full.right (rBuf m c)) $$ Hb
    icases Hb with ⟨Hb, Hc⟩
    isplitl [Hc]; · iexact Hc
    isplitl [Ha]; · iexact Ha
    iexact Hb
  have hl : lsPts m c (fst12 j) = rPts c (fst20 j) full.right.left (rBuf m c) := by unfold lsPts; rw [dif_pos hj]
  have hq : ksh (fst20 j) = full.right.right := if_pos hj
  unfold Ow
  simp only [sepL_cons, sepL_one, den]
  rw [hl, hq]
  iintro ⟨-, -, HO, ⟨%f, Hf⟩⟩ Hk
  iapply (store_rP (fst20 j) f (qz (aRows m c j))) $$ Hf
  iintro Hf
  ihave Hf := (hw f) $$ Hf
  iapply Hk
  isplitl [HO]; · iexact HO
  iexact Hf

/-! ## Slots loaded whole -/

abbrev ri (h j : Fin 4) : Fin 20 := ⟨4 * h.val + j.val, by omega⟩
abbrev hs5 (h : Fin 4) : Fin 5 := ⟨h.val, by omega⟩
abbrev li (h : Fin 3) (j : Fin 4) : Fin 12 := ⟨4 * h.val + j.val, by omega⟩
abbrev hs4 (h : Fin 3) : Fin 4 := ⟨h.val + 1, by omega⟩

theorem rSlot (c : Dev nD) (h : Fin 4) (q : Sh) (f : Vec F S5x1536x768 .i8) :
    (bigSep (Finset.univ : Finset (Fin 4)) fun j => rPts c (ri h j) q f)
      = ((rM.access (rS (hs5 h))).loc (c : Thread nD τ) ↦[(rM.access (rS (hs5 h))).set]{q} f : sProp 𝕄) := by
  unfold rPts
  have hcover : (Finset.univ : Finset (Fin 4)).biUnion (fun j => (rP (ri h j)).view.set) = (rM.access (rS (hs5 h))).set := by
    rw [View.set_slice_whole]
    refine Finset.ext fun x => ?_
    have h1 : (x 1).val < 1536 := (x 1).isLt
    have hh := h.isLt
    rw [Finset.mem_biUnion]
    constructor
    · rintro ⟨j, -, hp⟩
      rw [rP_set] at hp
      have h0 := (mem_rR (ri h j) x).mp hp
      exact (mem_rS (hs5 h) x).mpr (h0.1.trans (by show (4 * h.val + j.val) / 4 = h.val; omega))
    · intro hx
      have h0 : (x 0).val = h.val := (mem_rS (hs5 h) x).mp hx
      refine ⟨⟨(x 1).val / 384, by omega⟩, Finset.mem_univ _, ?_⟩
      rw [rP_set]
      refine (mem_rR (ri h ⟨(x 1).val / 384, by omega⟩) x).mpr ⟨?_, ?_, ?_⟩
      · show _ = (4 * h.val + (x 1).val / 384) / 4; omega
      · show 384 * ((4 * h.val + (x 1).val / 384) % 4) ≤ _; omega
      · show _ < 384 * ((4 * h.val + (x 1).val / 384) % 4) + 384; omega
  have hdisj : ∀ p ∈ (Finset.univ : Finset (Fin 4)), ∀ q ∈ (Finset.univ : Finset (Fin 4)), p ≠ q → Disjoint (rP (ri h p)).view.set (rP (ri h q)).view.set := by
    intro p _ q _ hpq
    rw [rP_set, rP_set, Finset.disjoint_left]
    intro x hp hq
    have a := (mem_rR (ri h p) x).mp hp
    have b := (mem_rR (ri h q) x).mp hq
    have a1 : 384 * ((4 * h.val + p.val) % 4) ≤ (x 1).val ∧ (x 1).val < 384 * ((4 * h.val + p.val) % 4) + 384 := a.2
    have b1 : 384 * ((4 * h.val + q.val) % 4) ≤ (x 1).val ∧ (x 1).val < 384 * ((4 * h.val + q.val) % 4) + 384 := b.2
    exact hpq (Fin.ext (by omega))
  exact ((congrArg (fun S => ((rM.access (rS (hs5 h))).loc (c : Thread nD τ) ↦[S]{q} f : sProp 𝕄)) hcover.symm).trans (pointsTo_biUnion _ _ hdisj)).symm

theorem lSlot (c : Dev nD) (h : Fin 3) (q : Sh) (f : Vec F S4x1536x768 .i8) :
    (bigSep (Finset.univ : Finset (Fin 4)) fun j => lPts c (lnx (li h j)) q f)
      = ((lM.access (lS (hs4 h))).loc (c : Thread nD τ) ↦[(lM.access (lS (hs4 h))).set]{q} f : sProp 𝕄) := by
  unfold lPts
  have hcover : (Finset.univ : Finset (Fin 4)).biUnion (fun j => (lP (lnx (li h j))).view.set) = (lM.access (lS (hs4 h))).set := by
    rw [View.set_slice_whole]
    refine Finset.ext fun x => ?_
    have h1 : (x 1).val < 1536 := (x 1).isLt
    have hh := h.isLt
    rw [Finset.mem_biUnion]
    constructor
    · rintro ⟨j, -, hp⟩
      rw [lP_set] at hp
      have h0 := (mem_lR (lnx (li h j)) x).mp hp
      exact (mem_lS (hs4 h) x).mpr (h0.1.trans (by show (4 * h.val + j.val + 4) / 4 = h.val + 1; omega))
    · intro hx
      have h0 : (x 0).val = h.val + 1 := (mem_lS (hs4 h) x).mp hx
      refine ⟨⟨(x 1).val / 384, by omega⟩, Finset.mem_univ _, ?_⟩
      rw [lP_set]
      refine (mem_lR (lnx (li h ⟨(x 1).val / 384, by omega⟩)) x).mpr ⟨?_, ?_, ?_⟩
      · show _ = (4 * h.val + (x 1).val / 384 + 4) / 4; omega
      · show 384 * ((4 * h.val + (x 1).val / 384 + 4) % 4) ≤ _; omega
      · show _ < 384 * ((4 * h.val + (x 1).val / 384 + 4) % 4) + 384; omega
  have hdisj : ∀ p ∈ (Finset.univ : Finset (Fin 4)), ∀ q ∈ (Finset.univ : Finset (Fin 4)), p ≠ q → Disjoint (lP (lnx (li h p))).view.set (lP (lnx (li h q))).view.set := by
    intro p _ q _ hpq
    rw [lP_set, lP_set, Finset.disjoint_left]
    intro x hp hq
    have a := (mem_lR (lnx (li h p)) x).mp hp
    have b := (mem_lR (lnx (li h q)) x).mp hq
    have a1 : 384 * ((4 * h.val + p.val + 4) % 4) ≤ (x 1).val ∧ (x 1).val < 384 * ((4 * h.val + p.val + 4) % 4) + 384 := a.2
    have b1 : 384 * ((4 * h.val + q.val + 4) % 4) ≤ (x 1).val ∧ (x 1).val < 384 * ((4 * h.val + q.val + 4) % 4) + 384 := b.2
    exact hpq (Fin.ext (by omega))
  exact ((congrArg (fun S => ((lM.access (lS (hs4 h))).loc (c : Thread nD τ) ↦[S]{q} f : sProp 𝕄)) hcover.symm).trans (pointsTo_biUnion _ _ hdisj)).symm

/-- The rows of the device `h` hops to the left, once its four quarters are here. -/
theorem step_loadR (h : Fin 4) (hs : (h.val = 0 ∧ 4 ≤ s.q) ∨ (1 ≤ h.val ∧ 4 * h.val ≤ s.rr))
    {hl : rM.view.LoadsAt (rS (hs5 h)).toLoadRect} {k : Vec F S1x1536x768 .i8 → Prog (TpuEff nD τ sig (Elt F) Λ₀ .tc) α}
    (hk : State m c K s ⊢ Wp c (k (slab m (left^[h.val] c))) P) :
    State m c K s ⊢ Wp c (.op (.load rM (rS (hs5 h)).toLoadRect hl) k) P := by
  have hh := h.isLt
  refine look m ((List.finRange 4).map fun j => Res.rKeep (ri h j)) hk
    ((List.nodup_finRange 4).map fun a b e => Fin.ext (by have := congrArg Fin.val (Res.rKeep.inj e); exact Nat.add_left_cancel this)) ?_ ?_
  · intro a ha
    obtain ⟨j, -, rfl⟩ := List.mem_map.mp ha
    show (4 * h.val + j.val < 4 ∧ 4 * h.val + j.val < s.q) ∨ (4 ≤ 4 * h.val + j.val ∧ 4 * h.val + j.val < s.rr + 4)
    have := j.isLt
    omega
  have hq (j : Fin 4) : ksh (ri h j) = ksh (ri h 0) := (by decide : ∀ h j : Fin 4, ksh (ri h j) = ksh (ri h 0)) h j
  rw [bigSepL_fin]
  simp only [den, hq]
  rw [rSlot]
  have key := wp_load_rect 𝒱₀ (defs := defs₀ (F := F)) (c : Thread nD τ) none Set.univ (Γ := .empty) (Q := P) (m := rM) (r := rS (hs5 h)) (hl := hl) (k := k)
    (q := ksh (ri h 0)) (f := rBuf m c) (Finset.Subset.refl _)
  rw [show (rM.access (rS (hs5 h))).read (Elt F) (rBuf m c) = slab m (left^[h.val] c) from load_slabR m c (hs5 h)] at key
  exact key

/-- And of the one `h + 1` hops to the right. -/
theorem step_loadL (h : Fin 3) (hs : 4 * h.val + 4 ≤ s.rl)
    {hl : lM.view.LoadsAt (lS (hs4 h)).toLoadRect} {k : Vec F S1x1536x768 .i8 → Prog (TpuEff nD τ sig (Elt F) Λ₀ .tc) α}
    (hk : State m c K s ⊢ Wp c (k (slab m (right^[h.val + 1] c))) P) :
    State m c K s ⊢ Wp c (.op (.load lM (lS (hs4 h)).toLoadRect hl) k) P := by
  have hh := h.isLt
  refine look m ((List.finRange 4).map fun j => Res.lKeep (li h j)) hk
    ((List.nodup_finRange 4).map fun a b e => Fin.ext (by have := congrArg Fin.val (Res.lKeep.inj e); exact Nat.add_left_cancel this)) ?_ ?_
  · intro a ha
    obtain ⟨j, -, rfl⟩ := List.mem_map.mp ha
    show 4 * h.val + j.val < s.rl
    have := j.isLt
    omega
  have hq (j : Fin 4) : (if (li h j).val < 8 then full.right else full : Sh) = if h.val < 2 then full.right else full := by
    have := j.isLt
    by_cases h2 : h.val < 2
    · rw [if_pos h2, if_pos (by show 4 * h.val + j.val < 8; omega)]
    · rw [if_neg h2, if_neg (by show ¬ 4 * h.val + j.val < 8; omega)]
  rw [bigSepL_fin]
  simp only [den, lkPts, hq]
  rw [lSlot]
  have key := wp_load_rect 𝒱₀ (defs := defs₀ (F := F)) (c : Thread nD τ) none Set.univ (Γ := .empty) (Q := P) (m := lM) (r := lS (hs4 h)) (hl := hl) (k := k)
    (q := if h.val < 2 then full.right else full) (f := lBuf m c) (Finset.Subset.refl _)
  rw [show (lM.access (lS (hs4 h))).read (Elt F) (lBuf m c) = slab m (right^[h.val + 1] c) from load_slabL m c (hs4 h)] at key
  exact key

/-- A quarter of the opposite device's rows. -/
theorem step_loadS (p : Fin 4) (hs : 13 + p.val ≤ s.rr) {hl : rM.view.LoadsAt (rR (lst p)).toLoadRect}
    {k : Vec F S1x384x768 .i8 → Prog (TpuEff nD τ sig (Elt F) Λ₀ .tc) α} (hk : State m c K s ⊢ Wp c (k (subq m (opp c) p)) P) :
    State m c K s ⊢ Wp c (.op (.load rM (rR (lst p)).toLoadRect hl) k) P := by
  rw [← load_sub m c p] at hk
  refine look m [.rKeep (lst p)] hk (by simp) ?_ ?_
  · simp only [List.mem_singleton, forall_eq]
    exact .inr ⟨by show 4 ≤ 16 + p.val; omega, by show 16 + p.val < s.rr + 4; omega⟩
  simp only [sepL_one, den]
  exact load_rP (lst p) _ _

/-! ## The products -/

/-- Slot `0` before block `i`, for an even `i`; slot `1` for an odd one. -/
theorem step_peekC (p : Fin 2) (hs : held s (.cRaw p)) {hl : cM.view.LoadsAt (cR p).toLoadRect}
    {k : Vec F S1x1536x1536 .f32 → Prog (TpuEff nD τ sig (Elt F) Λ₀ .tc) α} (hk : ∀ x, State m c K s ⊢ Wp c (k x) P) :
    State m c K s ⊢ Wp c (.op (.load cM (cR p).toLoadRect hl) k) P := by
  refine look m (p' := iprop(∀ x, Wp c (k x) P)) [.cRaw p] (forall_intro hk) (by simp)
    (by simp only [List.mem_singleton, forall_eq]; exact hs) ?_
  simp only [sepL_one, den]
  iintro ⟨%f, Hf⟩ Hk
  iapply (load_cP p f) $$ Hf
  iintro Hf
  ihave Hk := (wand_at _ _ _) $$ Hk
  iapply Hk
  iexists f
  iexact Hf

theorem step_storeC (i : Fin 7) (w : Vec F S1x1536x1536 .f32) (hw : w = dotF (slab m (org i.val c)) (bb m c))
    (hs : s.cs = i.val ∧ s.ci ≤ i.val ∧ i.val ≤ s.cw + 1 ∧ s.cw ≤ s.ci)
    {hx : (cM.access (cR (slot i))).Stores Finset.univ}
    {hm : (Finset.univ : Finset (cR (slot i)).shape.Idx) = Finset.univ ∨ ∀ a, (cR (slot i)).stride a = 1}
    {k : PUnit → Prog (TpuEff nD τ sig (Elt F) Λ₀ .tc) α} (hk : State m c K { s with cs := i.val + 1 } ⊢ Wp c (k ⟨⟩) P) :
    State m c K s ⊢ Wp c (.op (.store cM (cR (slot i)) w Finset.univ hx hm) k) P := by
  subst hw
  obtain ⟨h1, h2, h3, h4⟩ := hs
  have hi := i.isLt
  refine step m [.cRaw (slot i)] [.cHold i] hk (by simp) (by simp) ?_ ?_
  · intro a
    cases a <;> simp only [held, List.mem_cons, List.not_mem_nil, Res.cRaw.injEq, Res.cHold.injEq, Fin.ext_iff, reduceCtorEq,
      _root_.or_false, _root_.false_or, _root_.or_self, not_false_eq_true, _root_.and_true, _root_.true_and, false_imp_iff, not_true_eq_false,
      true_imp_iff, iff_false, false_iff, IsEmpty.forall_iff] <;> omega
  have hw (f : Vec F S2x1536x1536 .f32) : cPts c (slot i) ((cM.access (cR (slot i))).write (Elt F) f (dotF (slab m (org i.val c)) (bb m c)) Finset.univ)
      ⊢ cPts c (slot i) (cBuf m c i) := by
    unfold cPts
    exact Entails.of_eq (pointsTo_congr fun x hx => store_block m c (slot i) i f x (by rw [View.set_slice_whole]; rwa [cP_set] at hx))
  unfold Ow
  simp only [sepL_one, den]
  iintro ⟨-, -, HO, ⟨%f, Hf⟩⟩ Hk
  iapply (store_cP (slot i) f (dotF (slab m (org i.val c)) (bb m c))) $$ Hf
  iintro Hf
  ihave Hf := (hw f) $$ Hf
  iapply Hk
  isplitl [HO]; · iexact HO
  iexact Hf

theorem step_peekS (p : Fin 4) (hs : s.cw = 6 ∧ s.cs ≤ 7 + p.val) {hl : cM.view.LoadsAt (sR p).toLoadRect}
    {k : Vec F S1x384x1536 .f32 → Prog (TpuEff nD τ sig (Elt F) Λ₀ .tc) α} (hk : ∀ x, State m c K s ⊢ Wp c (k x) P) :
    State m c K s ⊢ Wp c (.op (.load cM (sR p).toLoadRect hl) k) P := by
  obtain ⟨h1, h2⟩ := hs
  refine look m (p' := iprop(∀ x, Wp c (k x) P)) [.sRaw p] (forall_intro hk) (by simp)
    (by simp only [List.mem_singleton, forall_eq, held]; omega) ?_
  simp only [sepL_one, den]
  iintro ⟨%f, Hf⟩ Hk
  iapply (load_sP p f) $$ Hf
  iintro Hf
  ihave Hk := (wand_at _ _ _) $$ Hk
  iapply Hk
  iexists f
  iexact Hf

theorem step_storeS (p : Fin 4) (w : Vec F S1x384x1536 .f32) (hw : w = dotS (subq m (opp c) p) (bb m c))
    (hs : s.cs = 7 + p.val ∧ s.ci ≤ 7 + p.val ∧ s.cw = 6)
    {hx : (cM.access (sR p)).Stores Finset.univ}
    {hm : (Finset.univ : Finset (sR p).shape.Idx) = Finset.univ ∨ ∀ a, (sR p).stride a = 1}
    {k : PUnit → Prog (TpuEff nD τ sig (Elt F) Λ₀ .tc) α} (hk : State m c K { s with cs := 8 + p.val } ⊢ Wp c (k ⟨⟩) P) :
    State m c K s ⊢ Wp c (.op (.store cM (sR p) w Finset.univ hx hm) k) P := by
  subst hw
  obtain ⟨h1, h2, h3⟩ := hs
  have hi := p.isLt
  refine step m [.sRaw p] [.sHold p] hk (by simp) (by simp) ?_ ?_
  · intro a
    cases a <;> simp only [held, List.mem_cons, List.not_mem_nil, Res.sRaw.injEq, Res.sHold.injEq, Fin.ext_iff, reduceCtorEq,
      _root_.or_false, _root_.false_or, _root_.or_self, not_false_eq_true, _root_.and_true, _root_.true_and, false_imp_iff, not_true_eq_false,
      true_imp_iff, iff_false, false_iff, IsEmpty.forall_iff] <;> omega
  have hw (f : Vec F S2x1536x1536 .f32) : sPts c p ((cM.access (sR p)).write (Elt F) f (dotS (subq m (opp c) p) (bb m c)) Finset.univ)
      ⊢ sPts c p (sBuf m c p) := by
    unfold sPts
    exact Entails.of_eq (pointsTo_congr fun x hx => store_sub m c p f x (by rw [View.set_slice_whole]; rwa [sP_set] at hx))
  unfold Ow
  simp only [sepL_one, den]
  iintro ⟨-, -, HO, ⟨%f, Hf⟩⟩ Hk
  iapply (store_sP p f (dotS (subq m (opp c) p) (bb m c))) $$ Hf
  iintro Hf
  ihave Hf := (hw f) $$ Hf
  iapply Hk
  isplitl [HO]; · iexact HO
  iexact Hf

end Cert.Gather
end
-- ==== Proof.Body.lean ====
/- The kernel's parts, one after another, by the steps of their operations. -/
module

public import Idealize.ShloMosaic.Lib.Pipeline.BigSepL
public import proofs.«01_k».proof.Proof.Steps3

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {c : Dev nD} {K : Dev nD × Fin 69 → ℕ} {s : St}

/-- A part of the kernel on its buffers and semaphores. -/
abbrev onBufs {β : Type _} (f : (arg0 : Memref sig .tc .vmem S1536x768 .f32) → arg0.IsWhole → (arg1 : Memref sig .tc .vmem S768x1536 .f32) → arg1.IsWhole →
    (arg2 : Memref sig .tc .hbm S12288x1536 .f32) → arg2.IsWhole → (arg3 : Memref sig .tc .vmem S5x1536x768 .i8) → arg3.IsWhole →
    (arg4 : Memref sig .tc .vmem S4x1536x768 .i8) → arg4.IsWhole → (arg5 : Memref sig .tc .vmem S768x1536 .bf16) → arg5.IsWhole →
    (arg6 : Memref sig .tc .vmem S2x1536x1536 .f32) → arg6.IsWhole → DmaSems sig S16 → DmaSems sig S16 → DmaSems sig S12 → DmaSems sig S12 → DmaSems sig S12 → β) : β :=
  f aM (Memref.isWhole_whole _) bM (Memref.isWhole_whole _) oM (Memref.isWhole_whole _) rM (Memref.isWhole_whole _) lM (Memref.isWhole_whole _)
    bbM (Memref.isWhole_whole _) cM (Memref.isWhole_whole _) cc0_scratch4 cc0_scratch5 cc0_scratch6 cc0_scratch7 cc0_scratch8

/-- A part of the kernel takes device `c` from state `s` to `s'` and returns a value of which `v` holds. -/
def Runs (c : Dev nD) (s : St) {β : Type} (p : Prog (TpuEff nD τ sig (Elt F) Λ₀ .tc) β) (s' : St) (v : β → Prop) : Prop :=
  ∀ (K : Dev nD × Fin 69 → ℕ) (α : Type) (k : β → Prog (TpuEff nD τ sig (Elt F) Λ₀ .tc) α) (P : α → sProp 𝕄),
    (∀ x, v x → State m c K s' ⊢ Wp c (k x) P) → State m c K s ⊢ Wp c (p >>= k) P

/-- No claim on what a part returns. -/
abbrev any {β : Type} : β → Prop := fun _ => True

/-! The places of the result the blocks go to. -/

theorem mem_own (c : Dev nD) (p p' hs hs') :
    oM.slice (Rect.unit (s := S12288x1536) (k0_off1 c) S1536x1536.size p) hs = oM.slice (Rect.unit (s := S12288x1536) ![1536 * (org 0 c).val, 0] S1536x1536.size p') hs' :=
  Memref.slice_unit_congr _ (off_own c) p p' hs hs'
theorem mem_left (c : Dev nD) (r : Fin 3) (p p' hs hs') :
    oM.slice (Rect.unit (s := S12288x1536) (k0_off2 c (BitVec.ofNat 32 (1 + r.val))) S1536x1536.size p) hs =
      oM.slice (Rect.unit (s := S12288x1536) ![1536 * (org (2 * r.val + 1) c).val, 0] S1536x1536.size p') hs' :=
  Memref.slice_unit_congr _ (off_left c r) p p' hs hs'
theorem mem_right (c : Dev nD) (r : Fin 3) (p p' hs hs') :
    oM.slice (Rect.unit (s := S12288x1536) (k0_off3 c (BitVec.ofNat 32 (1 + r.val))) S1536x1536.size p) hs =
      oM.slice (Rect.unit (s := S12288x1536) ![1536 * (org (2 * r.val + 2) c).val, 0] S1536x1536.size p') hs' :=
  Memref.slice_unit_congr _ (off_right c r) p p' hs hs'
theorem mem_opp (c : Dev nD) (q : Fin 4) (p p' hs hs') :
    oM.slice (Rect.unit (s := S12288x1536) (k0_off4 c (BitVec.ofNat 32 (384 * q.val))) S384x1536.size p) hs =
      oM.slice (Rect.unit (s := S12288x1536) ![1536 * (opp c).val + 384 * q.val, 0] S384x1536.size p') hs' :=
  Memref.slice_unit_congr _ (off_opp c q) p p' hs hs'

theorem eN (m : Memref sig .tc .vmem S384x768 .i8) (h : m.view.dmaCredit = (rP 0).view.dmaCredit) : m.view.dmaCredit = N := h.trans (rP_credit 0)
theorem eC (m : Memref sig .tc .hbm S1536x1536 .f32) (h : m.view.dmaCredit = (oP 0).view.dmaCredit) : m.view.dmaCredit = NC := h.trans (oP_credit 0)
theorem eS (m : Memref sig .tc .hbm S384x1536 .f32) (h : m.view.dmaCredit = (pP 0 0).view.dmaCredit) : m.view.dmaCredit = NS := h.trans (pP_credit 0 0)

theorem part1 (c : Dev nD) :
    Runs m c {} (onBufs (k0_part1 (F := F)))
      { sg := 2,  bw := 1 } (fun x => ∃ v2 v5 v10 v16, x = ⟨c, v2, v5, v10, v16, k0_pay1 (aRows m c 0), k0_pay2⟩) := by
  intro K α k P hk
  unfold onBufs
  rw [k0_part1_eq_skeleton]
  unfold k0_part1_skel
  simp only [semSignalWord, semWaitWord, Prog.lift, Prog.bind_op, Prog.bind_ret, Prog.pure_eq_ret, wp_deviceId]
  refine step_sigL m _ (dev_left c _ _ (k0_dev1_eq c)) _ rfl (by decide) ?_
  refine step_sigR m _ (dev_right c _ _ (k0_dev2_eq c)) _ rfl (by decide) ?_
  refine step_barrier m _ rfl (by decide) ?_
  refine step_loadA m 0 ?_
  exact hk _ ⟨_, _, _, _, rfl⟩

theorem part2 (c : Dev nD) (v10 v16 : BitVec 32) :
    Runs m c { sg := 2,  bw := 1 } (onBufs (k0_part2 (F := F)) c v10 v16 (k0_pay1 (aRows m c 0)) k0_pay2)
      { sg := 2,  bw := 1,  q := 1,  nr := 1,  nl := 1 } (fun x => x = ⟨k0_pay4 (aRows m c 1), Scalar.ofBits .f32 0xC2FE0000#32⟩) := by
  intro K α k P hk
  unfold onBufs
  rw [k0_part2_eq_skeleton]
  unfold k0_part2_skel
  simp only [semSignalWord, semWaitWord, Prog.lift, Prog.bind_op, Prog.bind_ret, Prog.pure_eq_ret, wp_deviceId]
  refine step_peekQ m 0 (by decide) fun _ => ?_
  refine step_storeQ m 0 _ (qz0 _) (by decide) ?_
  refine step_sendR m 0 _ (dev_right c _ _ (k0_dev3_eq c)) (by decide) ?_
  refine step_sendL0 m 0 _ (dev_left c _ _ (k0_dev4_eq c)) (by decide) ?_
  refine step_loadA m 1 ?_
  exact hk _ rfl

theorem part3 (c : Dev nD) (v10 v16 : BitVec 32) :
    Runs m c { sg := 2,  bw := 1,  q := 1,  nr := 1,  nl := 1 } (onBufs (k0_part3 (F := F)) c v10 v16 (k0_pay4 (aRows m c 1)) (Scalar.ofBits .f32 0xC2FE0000#32))
      { sg := 2,  bw := 1,  q := 2,  nr := 2,  nl := 2 } (fun x => x = ⟨k0_pay6 (aRows m c 2), Scalar.ofBits .f32 0x41B8BA2F#32⟩) := by
  intro K α k P hk
  unfold onBufs
  rw [k0_part3_eq_skeleton]
  unfold k0_part3_skel
  simp only [semSignalWord, semWaitWord, Prog.lift, Prog.bind_op, Prog.bind_ret, Prog.pure_eq_ret, wp_deviceId]
  refine step_peekQ m 1 (by decide) fun _ => ?_
  refine step_storeQ m 1 _ (qz1 _) (by decide) ?_
  refine step_sendR m 1 _ (dev_right c _ _ (k0_dev5_eq c)) (by decide) ?_
  refine step_sendL0 m 1 _ (dev_left c _ _ (k0_dev6_eq c)) (by decide) ?_
  refine step_loadA m 2 ?_
  exact hk _ rfl

theorem part4 (c : Dev nD) (v10 v16 : BitVec 32) :
    Runs m c { sg := 2,  bw := 1,  q := 2,  nr := 2,  nl := 2 } (onBufs (k0_part4 (F := F)) c v10 v16 (k0_pay6 (aRows m c 2)) (Scalar.ofBits .f32 0x41B8BA2F#32))
      { sg := 2,  bw := 1,  q := 3,  nr := 3,  nl := 3 } any := by
  intro K α k P hk
  unfold onBufs
  rw [k0_part4_eq_skeleton]
  unfold k0_part4_skel
  simp only [semSignalWord, semWaitWord, Prog.lift, Prog.bind_op, Prog.bind_ret, Prog.pure_eq_ret, wp_deviceId]
  refine step_peekQ m 2 (by decide) fun _ => ?_
  refine step_storeQ m 2 _ (qz2 _) (by decide) ?_
  refine step_sendR m 2 _ (dev_right c _ _ (k0_dev7_eq c)) (by decide) ?_
  refine step_sendL0 m 2 _ (dev_left c _ _ (k0_dev8_eq c)) (by decide) ?_
  exact hk _ trivial

theorem part5 (c : Dev nD) (v10 v16 : BitVec 32) :
    Runs m c { sg := 2,  bw := 1,  q := 3,  nr := 3,  nl := 3 } (onBufs (k0_part5 (F := F)) c v10 v16)
      { sg := 2,  bw := 1,  q := 4,  nr := 4,  nl := 3 } any := by
  intro K α k P hk
  unfold onBufs
  rw [k0_part5_eq_skeleton]
  unfold k0_part5_skel
  simp only [semSignalWord, semWaitWord, Prog.lift, Prog.bind_op, Prog.bind_ret, Prog.pure_eq_ret, wp_deviceId]
  refine step_loadA m 3 ?_
  refine step_peekQ m 3 (by decide) fun _ => ?_
  refine step_storeQ m 3 _ rfl (by decide) ?_
  refine step_sendR m 3 _ (dev_right c _ _ (k0_dev9_eq c)) (by decide) ?_
  exact hk _ trivial

theorem part6 (c : Dev nD) (v2 v10 : BitVec 32) :
    Runs m c { sg := 2,  bw := 1,  q := 4,  nr := 4,  nl := 3 } (onBufs (k0_part6 (F := F)) c v2 v10)
      { sg := 2,  bw := 1,  q := 4,  nr := 4,  nl := 4,  b := 1,  cs := 1,  ci := 1 } any := by
  intro K α k P hk
  unfold onBufs
  rw [k0_part6_eq_skeleton]
  unfold k0_part6_skel
  simp only [semSignalWord, semWaitWord, Prog.lift, Prog.bind_op, Prog.bind_ret, Prog.pure_eq_ret, wp_deviceId]
  refine step_sendL0 m 3 _ (dev_left c _ _ (k0_dev10_eq c)) (by decide) ?_
  refine step_loadB m ?_
  refine step_peekW m rfl fun _ => ?_
  refine step_storeW m _ rfl rfl ?_
  refine step_loadR m 0 (by decide) ?_
  refine step_loadW m (by decide) ?_
  refine step_peekC m 0 (by simp [held]) fun _ => ?_
  refine step_storeC m 0 _ rfl (by decide) ?_
  refine step_copy m 0 _ (mem_own c _ _ _ _) (by decide) ?_
  exact hk _ trivial

theorem part7 (c : Dev nD) (v10 v16 : BitVec 32) :
    Runs m c { sg := 2,  bw := 1,  q := 4,  nr := 4,  nl := 4,  b := 1,  cs := 1,  ci := 1 } (onBufs (k0_part7 (F := F)) c v10 v16)
      { sg := 2,  bw := 1,  q := 4,  nr := 5,  nl := 4,  rr := 1,  rl := 1,  b := 1,  cs := 1,  ci := 1 } any := by
  intro K α k P hk
  unfold onBufs
  rw [k0_part7_eq_skeleton]
  unfold k0_part7_skel
  simp only [semSignalWord, semWaitWord, Prog.lift, Prog.bind_op, Prog.bind_ret, Prog.pure_eq_ret, wp_deviceId]
  refine step_waitR m 0 (by decide) (eN _ rfl) ?_
  refine step_sendR m 4 _ (dev_right c _ _ (k0_dev11_eq c)) (by decide) ?_
  refine step_waitL m 0 (by decide) (eN _ rfl) ?_
  exact hk _ trivial

theorem part8 (c : Dev nD) (v10 v16 : BitVec 32) :
    Runs m c { sg := 2,  bw := 1,  q := 4,  nr := 5,  nl := 4,  rr := 1,  rl := 1,  b := 1,  cs := 1,  ci := 1 } (onBufs (k0_part8 (F := F)) c v10 v16)
      { sg := 2,  bw := 1,  q := 4,  nr := 6,  nl := 5,  rr := 2,  rl := 1,  b := 1,  cs := 1,  ci := 1 } any := by
  intro K α k P hk
  unfold onBufs
  rw [k0_part8_eq_skeleton]
  unfold k0_part8_skel
  simp only [semSignalWord, semWaitWord, Prog.lift, Prog.bind_op, Prog.bind_ret, Prog.pure_eq_ret, wp_deviceId]
  refine step_sendL m 4 _ (dev_left c _ _ (k0_dev12_eq c)) (by decide) ?_
  refine step_waitR m 1 (by decide) (eN _ rfl) ?_
  refine step_sendR m 5 _ (dev_right c _ _ (k0_dev13_eq c)) (by decide) ?_
  exact hk _ trivial

theorem part9 (c : Dev nD) (v10 v16 : BitVec 32) :
    Runs m c { sg := 2,  bw := 1,  q := 4,  nr := 6,  nl := 5,  rr := 2,  rl := 1,  b := 1,  cs := 1,  ci := 1 } (onBufs (k0_part9 (F := F)) c v10 v16)
      { sg := 2,  bw := 1,  q := 4,  nr := 6,  nl := 6,  rr := 3,  rl := 2,  b := 1,  cs := 1,  ci := 1 } any := by
  intro K α k P hk
  unfold onBufs
  rw [k0_part9_eq_skeleton]
  unfold k0_part9_skel
  simp only [semSignalWord, semWaitWord, Prog.lift, Prog.bind_op, Prog.bind_ret, Prog.pure_eq_ret, wp_deviceId]
  refine step_waitL m 1 (by decide) (eN _ rfl) ?_
  refine step_sendL m 5 _ (dev_left c _ _ (k0_dev14_eq c)) (by decide) ?_
  refine step_waitR m 2 (by decide) (eN _ rfl) ?_
  exact hk _ trivial

theorem part10 (c : Dev nD) (v10 v16 : BitVec 32) :
    Runs m c { sg := 2,  bw := 1,  q := 4,  nr := 6,  nl := 6,  rr := 3,  rl := 2,  b := 1,  cs := 1,  ci := 1 } (onBufs (k0_part10 (F := F)) c v10 v16)
      { sg := 2,  bw := 1,  q := 4,  nr := 7,  nl := 7,  rr := 3,  rl := 3,  b := 1,  cs := 1,  ci := 1 } any := by
  intro K α k P hk
  unfold onBufs
  rw [k0_part10_eq_skeleton]
  unfold k0_part10_skel
  simp only [semSignalWord, semWaitWord, Prog.lift, Prog.bind_op, Prog.bind_ret, Prog.pure_eq_ret, wp_deviceId]
  refine step_sendR m 6 _ (dev_right c _ _ (k0_dev15_eq c)) (by decide) ?_
  refine step_waitL m 2 (by decide) (eN _ rfl) ?_
  refine step_sendL m 6 _ (dev_left c _ _ (k0_dev16_eq c)) (by decide) ?_
  exact hk _ trivial

theorem part11 (c : Dev nD) (v10 v16 : BitVec 32) :
    Runs m c { sg := 2,  bw := 1,  q := 4,  nr := 7,  nl := 7,  rr := 3,  rl := 3,  b := 1,  cs := 1,  ci := 1 } (onBufs (k0_part11 (F := F)) c v10 v16)
      { sg := 2,  bw := 1,  q := 4,  nr := 8,  nl := 7,  rr := 4,  rl := 4,  b := 1,  cs := 1,  ci := 1 } any := by
  intro K α k P hk
  unfold onBufs
  rw [k0_part11_eq_skeleton]
  unfold k0_part11_skel
  simp only [semSignalWord, semWaitWord, Prog.lift, Prog.bind_op, Prog.bind_ret, Prog.pure_eq_ret, wp_deviceId]
  refine step_waitR m 3 (by decide) (eN _ rfl) ?_
  refine step_sendR m 7 _ (dev_right c _ _ (k0_dev17_eq c)) (by decide) ?_
  refine step_waitL m 3 (by decide) (eN _ rfl) ?_
  exact hk _ trivial

theorem part12 (c : Dev nD) (v5 : BitVec 32) :
    Runs m c { sg := 2,  bw := 1,  q := 4,  nr := 8,  nl := 7,  rr := 4,  rl := 4,  b := 1,  cs := 1,  ci := 1 } (onBufs (k0_part12 (F := F)) c v5)
      { sg := 2,  bw := 1,  q := 4,  nr := 8,  nl := 8,  rr := 4,  rl := 4,  b := 1,  cs := 2,  ci := 2 } any := by
  intro K α k P hk
  unfold onBufs
  rw [k0_part12_eq_skeleton]
  unfold k0_part12_skel
  simp only [semSignalWord, semWaitWord, Prog.lift, Prog.bind_op, Prog.bind_ret, Prog.pure_eq_ret, wp_deviceId]
  refine step_sendL m 7 _ (dev_left c _ _ (k0_dev18_eq c)) (by decide) ?_
  refine step_loadR m 1 (by decide) ?_
  refine step_loadW m (by decide) ?_
  refine step_peekC m 1 (by simp [held]) fun _ => ?_
  refine step_storeC m 1 _ (dotF1 _ _) (by decide) ?_
  refine step_copy m 1 _ (mem_left c 0 _ _ _ _) (by decide) ?_
  exact hk _ trivial

theorem part13 (c : Dev nD) (v10 v344 : BitVec 32) :
    Runs m c { sg := 2,  bw := 1,  q := 4,  nr := 8,  nl := 8,  rr := 4,  rl := 4,  b := 1,  cs := 2,  ci := 2 } (onBufs (k0_part13 (F := F)) c v10 v344)
      { sg := 2,  bw := 1,  q := 4,  nr := 8,  nl := 8,  rr := 5,  rl := 4,  b := 1,  cs := 3,  ci := 3,  cw := 1 } any := by
  intro K α k P hk
  unfold onBufs
  rw [k0_part13_eq_skeleton]
  unfold k0_part13_skel
  simp only [semSignalWord, semWaitWord, Prog.lift, Prog.bind_op, Prog.bind_ret, Prog.pure_eq_ret, wp_deviceId]
  refine step_copied m 0 (by decide) (by decide) (eC _ rfl) ?_
  refine step_loadL m 0 (by decide) ?_
  refine step_loadW m (by decide) ?_
  refine step_peekC m 0 (by simp [held]) fun _ => ?_
  refine step_storeC m 2 _ (dotF2 _ _) (by decide) ?_
  refine step_copy m 2 _ (mem_right c 0 _ _ _ _) (by decide) ?_
  refine step_waitR m 4 (by decide) (eN _ rfl) ?_
  exact hk _ trivial

theorem part14 (c : Dev nD) (v10 v16 : BitVec 32) :
    Runs m c { sg := 2,  bw := 1,  q := 4,  nr := 8,  nl := 8,  rr := 5,  rl := 4,  b := 1,  cs := 3,  ci := 3,  cw := 1 } (onBufs (k0_part14 (F := F)) c v10 v16)
      { sg := 2,  bw := 1,  q := 4,  nr := 9,  nl := 8,  rr := 5,  rl := 5,  b := 1,  cs := 3,  ci := 3,  cw := 1 } any := by
  intro K α k P hk
  unfold onBufs
  rw [k0_part14_eq_skeleton]
  unfold k0_part14_skel
  simp only [semSignalWord, semWaitWord, Prog.lift, Prog.bind_op, Prog.bind_ret, Prog.pure_eq_ret, wp_deviceId]
  refine step_sendR m 8 _ (dev_right c _ _ (k0_dev19_eq c)) (by decide) ?_
  refine step_waitL m 4 (by decide) (eN _ rfl) ?_
  exact hk _ trivial

theorem part15 (c : Dev nD) (v10 v16 : BitVec 32) :
    Runs m c { sg := 2,  bw := 1,  q := 4,  nr := 9,  nl := 8,  rr := 5,  rl := 5,  b := 1,  cs := 3,  ci := 3,  cw := 1 } (onBufs (k0_part15 (F := F)) c v10 v16)
      { sg := 2,  bw := 1,  q := 4,  nr := 10,  nl := 9,  rr := 6,  rl := 6,  b := 1,  cs := 3,  ci := 3,  cw := 1 } any := by
  intro K α k P hk
  unfold onBufs
  rw [k0_part15_eq_skeleton]
  unfold k0_part15_skel
  simp only [semSignalWord, semWaitWord, Prog.lift, Prog.bind_op, Prog.bind_ret, Prog.pure_eq_ret, wp_deviceId]
  refine step_sendL m 8 _ (dev_left c _ _ (k0_dev20_eq c)) (by decide) ?_
  refine step_waitR m 5 (by decide) (eN _ rfl) ?_
  refine step_sendR m 9 _ (dev_right c _ _ (k0_dev21_eq c)) (by decide) ?_
  refine step_waitL m 5 (by decide) (eN _ rfl) ?_
  exact hk _ trivial

theorem part16 (c : Dev nD) (v10 v16 : BitVec 32) :
    Runs m c { sg := 2,  bw := 1,  q := 4,  nr := 10,  nl := 9,  rr := 6,  rl := 6,  b := 1,  cs := 3,  ci := 3,  cw := 1 } (onBufs (k0_part16 (F := F)) c v10 v16)
      { sg := 2,  bw := 1,  q := 4,  nr := 10,  nl := 10,  rr := 7,  rl := 6,  b := 1,  cs := 3,  ci := 3,  cw := 1 } any := by
  intro K α k P hk
  unfold onBufs
  rw [k0_part16_eq_skeleton]
  unfold k0_part16_skel
  simp only [semSignalWord, semWaitWord, Prog.lift, Prog.bind_op, Prog.bind_ret, Prog.pure_eq_ret, wp_deviceId]
  refine step_sendL m 9 _ (dev_left c _ _ (k0_dev22_eq c)) (by decide) ?_
  refine step_waitR m 6 (by decide) (eN _ rfl) ?_
  exact hk _ trivial

theorem part17 (c : Dev nD) (v10 v16 : BitVec 32) :
    Runs m c { sg := 2,  bw := 1,  q := 4,  nr := 10,  nl := 10,  rr := 7,  rl := 6,  b := 1,  cs := 3,  ci := 3,  cw := 1 } (onBufs (k0_part17 (F := F)) c v10 v16)
      { sg := 2,  bw := 1,  q := 4,  nr := 11,  nl := 11,  rr := 8,  rl := 7,  b := 1,  cs := 3,  ci := 3,  cw := 1 } any := by
  intro K α k P hk
  unfold onBufs
  rw [k0_part17_eq_skeleton]
  unfold k0_part17_skel
  simp only [semSignalWord, semWaitWord, Prog.lift, Prog.bind_op, Prog.bind_ret, Prog.pure_eq_ret, wp_deviceId]
  refine step_sendR m 10 _ (dev_right c _ _ (k0_dev23_eq c)) (by decide) ?_
  refine step_waitL m 6 (by decide) (eN _ rfl) ?_
  refine step_sendL m 10 _ (dev_left c _ _ (k0_dev24_eq c)) (by decide) ?_
  refine step_waitR m 7 (by decide) (eN _ rfl) ?_
  exact hk _ trivial

theorem part18 (c : Dev nD) (v10 v16 : BitVec 32) :
    Runs m c { sg := 2,  bw := 1,  q := 4,  nr := 11,  nl := 11,  rr := 8,  rl := 7,  b := 1,  cs := 3,  ci := 3,  cw := 1 } (onBufs (k0_part18 (F := F)) c v10 v16)
      { sg := 2,  bw := 1,  q := 4,  nr := 12,  nl := 11,  rr := 8,  rl := 8,  b := 1,  cs := 3,  ci := 3,  cw := 1 } any := by
  intro K α k P hk
  unfold onBufs
  rw [k0_part18_eq_skeleton]
  unfold k0_part18_skel
  simp only [semSignalWord, semWaitWord, Prog.lift, Prog.bind_op, Prog.bind_ret, Prog.pure_eq_ret, wp_deviceId]
  refine step_sendR m 11 _ (dev_right c _ _ (k0_dev25_eq c)) (by decide) ?_
  refine step_waitL m 7 (by decide) (eN _ rfl) ?_
  exact hk _ trivial

theorem part19 (c : Dev nD) (v5 : BitVec 32) :
    Runs m c { sg := 2,  bw := 1,  q := 4,  nr := 12,  nl := 11,  rr := 8,  rl := 8,  b := 1,  cs := 3,  ci := 3,  cw := 1 } (onBufs (k0_part19 (F := F)) c v5)
      { sg := 2,  bw := 1,  q := 4,  nr := 12,  nl := 12,  rr := 8,  rl := 8,  b := 1,  cs := 4,  ci := 4,  cw := 2 } any := by
  intro K α k P hk
  unfold onBufs
  rw [k0_part19_eq_skeleton]
  unfold k0_part19_skel
  simp only [semSignalWord, semWaitWord, Prog.lift, Prog.bind_op, Prog.bind_ret, Prog.pure_eq_ret, wp_deviceId]
  refine step_sendL m 11 _ (dev_left c _ _ (k0_dev26_eq c)) (by decide) ?_
  refine step_copied m 1 (by decide) (by decide) (eC _ rfl) ?_
  refine step_loadR m 2 (by decide) ?_
  refine step_loadW m (by decide) ?_
  refine step_peekC m 1 (by simp [held]) fun _ => ?_
  refine step_storeC m 3 _ rfl (by decide) ?_
  refine step_copy m 3 _ (mem_left c 1 _ _ _ _) (by decide) ?_
  exact hk _ trivial

theorem part20 (c : Dev nD) (v10 v534 : BitVec 32) (v535 : BitVec 1) :
    Runs m c { sg := 2,  bw := 1,  q := 4,  nr := 12,  nl := 12,  rr := 8,  rl := 8,  b := 1,  cs := 4,  ci := 4,  cw := 2 } (onBufs (k0_part20 (F := F)) c v10 v534 v535)
      { sg := 2,  bw := 1,  q := 4,  nr := 12,  nl := 12,  rr := 8,  rl := 8,  b := 1,  cs := 5,  ci := 5,  cw := 3 } any := by
  intro K α k P hk
  unfold onBufs
  rw [k0_part20_eq_skeleton]
  unfold k0_part20_skel
  simp only [semSignalWord, semWaitWord, Prog.lift, Prog.bind_op, Prog.bind_ret, Prog.pure_eq_ret, wp_deviceId]
  refine step_copied m 2 (by decide) (by decide) (eC _ rfl) ?_
  refine step_loadL m 1 (by decide) ?_
  refine step_loadW m (by decide) ?_
  refine step_peekC m 0 (by simp [held]) fun _ => ?_
  refine step_storeC m 4 _ rfl (by decide) ?_
  refine step_copy m 4 _ (mem_right c 1 _ _ _ _) (by decide) ?_
  exact hk _ trivial

theorem part21 (c : Dev nD) (v10 v16 : BitVec 32) :
    Runs m c { sg := 2,  bw := 1,  q := 4,  nr := 12,  nl := 12,  rr := 8,  rl := 8,  b := 1,  cs := 5,  ci := 5,  cw := 3 } (onBufs (k0_part21 (F := F)) c v10 v16)
      { sg := 2,  bw := 1,  q := 4,  nr := 13,  nl := 12,  rr := 9,  rl := 9,  b := 1,  cs := 5,  ci := 5,  cw := 3 } any := by
  intro K α k P hk
  unfold onBufs
  rw [k0_part21_eq_skeleton]
  unfold k0_part21_skel
  simp only [semSignalWord, semWaitWord, Prog.lift, Prog.bind_op, Prog.bind_ret, Prog.pure_eq_ret, wp_deviceId]
  refine step_waitR m 8 (by decide) (eN _ rfl) ?_
  refine step_sendR m 12 _ (dev_right c _ _ (k0_dev27_eq c)) (by decide) ?_
  refine step_waitL' m 0 (by decide) (eN _ rfl) ?_
  exact hk _ trivial

theorem part22 (c : Dev nD) (v10 v16 : BitVec 32) :
    Runs m c { sg := 2,  bw := 1,  q := 4,  nr := 13,  nl := 12,  rr := 9,  rl := 9,  b := 1,  cs := 5,  ci := 5,  cw := 3 } (onBufs (k0_part22 (F := F)) c v10 v16)
      { sg := 2,  bw := 1,  q := 4,  nr := 14,  nl := 12,  rr := 10,  rl := 10,  b := 1,  cs := 5,  ci := 5,  cw := 3 } any := by
  intro K α k P hk
  unfold onBufs
  rw [k0_part22_eq_skeleton]
  unfold k0_part22_skel
  simp only [semSignalWord, semWaitWord, Prog.lift, Prog.bind_op, Prog.bind_ret, Prog.pure_eq_ret, wp_deviceId]
  refine step_waitR m 9 (by decide) (eN _ rfl) ?_
  refine step_sendR m 13 _ (dev_right c _ _ (k0_dev28_eq c)) (by decide) ?_
  refine step_waitL' m 1 (by decide) (eN _ rfl) ?_
  exact hk _ trivial

theorem part23 (c : Dev nD) (v10 v16 : BitVec 32) :
    Runs m c { sg := 2,  bw := 1,  q := 4,  nr := 14,  nl := 12,  rr := 10,  rl := 10,  b := 1,  cs := 5,  ci := 5,  cw := 3 } (onBufs (k0_part23 (F := F)) c v10 v16)
      { sg := 2,  bw := 1,  q := 4,  nr := 15,  nl := 12,  rr := 11,  rl := 11,  b := 1,  cs := 5,  ci := 5,  cw := 3 } any := by
  intro K α k P hk
  unfold onBufs
  rw [k0_part23_eq_skeleton]
  unfold k0_part23_skel
  simp only [semSignalWord, semWaitWord, Prog.lift, Prog.bind_op, Prog.bind_ret, Prog.pure_eq_ret, wp_deviceId]
  refine step_waitR m 10 (by decide) (eN _ rfl) ?_
  refine step_sendR m 14 _ (dev_right c _ _ (k0_dev29_eq c)) (by decide) ?_
  refine step_waitL' m 2 (by decide) (eN _ rfl) ?_
  exact hk _ trivial

theorem part24 (c : Dev nD) (v5 v10 v16 : BitVec 32) :
    Runs m c { sg := 2,  bw := 1,  q := 4,  nr := 15,  nl := 12,  rr := 11,  rl := 11,  b := 1,  cs := 5,  ci := 5,  cw := 3 } (onBufs (k0_part24 (F := F)) c v5 v10 v16)
      { sg := 2,  bw := 1,  q := 4,  nr := 16,  nl := 12,  rr := 12,  rl := 12,  b := 1,  cs := 5,  ci := 5,  cw := 3 } any := by
  intro K α k P hk
  unfold onBufs
  rw [k0_part24_eq_skeleton]
  unfold k0_part24_skel
  simp only [semSignalWord, semWaitWord, Prog.lift, Prog.bind_op, Prog.bind_ret, Prog.pure_eq_ret, wp_deviceId]
  refine step_waitR m 11 (by decide) (eN _ rfl) ?_
  refine step_sendR m 15 _ (dev_right c _ _ (k0_dev30_eq c)) (by decide) ?_
  refine step_waitL' m 3 (by decide) (eN _ rfl) ?_
  exact hk _ trivial

theorem part25 (c : Dev nD) (v5 v666 : BitVec 32) :
    Runs m c { sg := 2,  bw := 1,  q := 4,  nr := 16,  nl := 12,  rr := 12,  rl := 12,  b := 1,  cs := 5,  ci := 5,  cw := 3 } (onBufs (k0_part25 (F := F)) c v5 v666)
      { sg := 2,  bw := 1,  q := 4,  nr := 16,  nl := 12,  rr := 12,  rl := 12,  b := 1,  cs := 6,  ci := 6,  cw := 5 } (fun x => x.2 = k0_pay16 (slab m (org 6 c))) := by
  intro K α k P hk
  unfold onBufs
  rw [k0_part25_eq_skeleton]
  unfold k0_part25_skel
  simp only [semSignalWord, semWaitWord, Prog.lift, Prog.bind_op, Prog.bind_ret, Prog.pure_eq_ret, wp_deviceId]
  refine step_copied m 3 (by decide) (by decide) (eC _ rfl) ?_
  refine step_loadR m 3 (by decide) ?_
  refine step_loadW m (by decide) ?_
  refine step_peekC m 1 (by simp [held]) fun _ => ?_
  refine step_storeC m 5 _ rfl (by decide) ?_
  refine step_copy m 5 _ (mem_left c 2 _ _ _ _) (by decide) ?_
  refine step_copied m 4 (by decide) (by decide) (eC _ rfl) ?_
  refine step_loadL m 2 (by decide) ?_
  exact hk _ rfl

theorem part26 (c : Dev nD) (v5 v10 v690 : BitVec 32) :
    Runs m c { sg := 2,  bw := 1,  q := 4,  nr := 16,  nl := 12,  rr := 12,  rl := 12,  b := 1,  cs := 6,  ci := 6,  cw := 5 } (onBufs (k0_part26 (F := F)) c v5 v10 v690 (k0_pay16 (slab m (org 6 c))))
      { sg := 2,  bw := 1,  q := 4,  nr := 16,  nl := 12,  rr := 12,  rl := 12,  b := 1,  cs := 7,  ci := 7,  cw := 6 } any := by
  intro K α k P hk
  unfold onBufs
  rw [k0_part26_eq_skeleton]
  unfold k0_part26_skel
  simp only [semSignalWord, semWaitWord, Prog.lift, Prog.bind_op, Prog.bind_ret, Prog.pure_eq_ret, wp_deviceId]
  refine step_loadW m (by decide) ?_
  refine step_peekC m 0 (by simp [held]) fun _ => ?_
  refine step_storeC m 6 _ (dotF6 _ _) (by decide) ?_
  refine step_copy m 6 _ (mem_right c 2 _ _ _ _) (by decide) ?_
  refine step_copied5 m (by decide) (eC _ rfl) ?_
  exact hk _ trivial

theorem part27 (c : Dev nD) (v10 v715 : BitVec 32) :
    Runs m c { sg := 2,  bw := 1,  q := 4,  nr := 16,  nl := 12,  rr := 12,  rl := 12,  b := 1,  cs := 7,  ci := 7,  cw := 6 } (onBufs (k0_part27 (F := F)) c v10 v715)
      { sg := 2,  bw := 1,  q := 4,  nr := 16,  nl := 12,  rr := 14,  rl := 12,  b := 1,  cs := 8,  ci := 8,  cw := 6 } any := by
  intro K α k P hk
  unfold onBufs
  rw [k0_part27_eq_skeleton]
  unfold k0_part27_skel
  simp only [semSignalWord, semWaitWord, Prog.lift, Prog.bind_op, Prog.bind_ret, Prog.pure_eq_ret, wp_deviceId]
  refine step_waitR' m 0 (by decide) (eN _ rfl) ?_
  refine step_loadS m 0 (by decide) ?_
  refine step_loadW m (by decide) ?_
  refine step_peekS m 0 (by decide) fun _ => ?_
  refine step_storeS m 0 _ rfl (by decide) ?_
  refine step_copyS m 0 _ (mem_opp c 0 _ _ _ _) (by decide) ?_
  refine step_waitR' m 1 (by decide) (eN _ rfl) ?_
  exact hk _ trivial

theorem part28 (c : Dev nD) (v10 v715 : BitVec 32) :
    Runs m c { sg := 2,  bw := 1,  q := 4,  nr := 16,  nl := 12,  rr := 14,  rl := 12,  b := 1,  cs := 8,  ci := 8,  cw := 6 } (onBufs (k0_part28 (F := F)) c v10 v715)
      { sg := 2,  bw := 1,  q := 4,  nr := 16,  nl := 12,  rr := 15,  rl := 12,  b := 1,  cs := 9,  ci := 9,  cw := 6 } (fun x => x = ⟨k0_pay20 (subq m (opp c) 2), bb m c, constant S384x1536 .f32 0x00000000#32⟩) := by
  intro K α k P hk
  unfold onBufs
  rw [k0_part28_eq_skeleton]
  unfold k0_part28_skel
  simp only [semSignalWord, semWaitWord, Prog.lift, Prog.bind_op, Prog.bind_ret, Prog.pure_eq_ret, wp_deviceId]
  refine step_loadS m 1 (by decide) ?_
  refine step_loadW m (by decide) ?_
  refine step_peekS m 1 (by decide) fun _ => ?_
  refine step_storeS m 1 _ (dotS1 _ _) (by decide) ?_
  refine step_copyS m 1 _ (mem_opp c 1 _ _ _ _) (by decide) ?_
  refine step_waitR' m 2 (by decide) (eN _ rfl) ?_
  refine step_loadS m 2 (by decide) ?_
  refine step_loadW m (by decide) ?_
  exact hk _ rfl

theorem part29 (c : Dev nD) (v10 v715 : BitVec 32) :
    Runs m c { sg := 2,  bw := 1,  q := 4,  nr := 16,  nl := 12,  rr := 15,  rl := 12,  b := 1,  cs := 9,  ci := 9,  cw := 6 } (onBufs (k0_part29 (F := F)) c v10 v715 (k0_pay20 (subq m (opp c) 2)) (bb m c) (constant S384x1536 .f32 0x00000000#32))
      { sg := 2,  bw := 1,  q := 4,  nr := 16,  nl := 12,  rr := 16,  rl := 12,  b := 1,  cs := 11,  ci := 10,  cw := 6 } any := by
  intro K α k P hk
  unfold onBufs
  rw [k0_part29_eq_skeleton]
  unfold k0_part29_skel
  simp only [semSignalWord, semWaitWord, Prog.lift, Prog.bind_op, Prog.bind_ret, Prog.pure_eq_ret, wp_deviceId]
  refine step_peekS m 2 (by decide) fun _ => ?_
  refine step_storeS m 2 _ (dotS2 _ _) (by decide) ?_
  refine step_copyS m 2 _ (mem_opp c 2 _ _ _ _) (by decide) ?_
  refine step_waitR' m 3 (by decide) (eN _ rfl) ?_
  refine step_loadS m 3 (by decide) ?_
  refine step_loadW m (by decide) ?_
  refine step_peekS m 3 (by decide) fun _ => ?_
  refine step_storeS m 3 _ rfl (by decide) ?_
  exact hk _ trivial

theorem part30 (c : Dev nD) (v715 : BitVec 32) :
    Runs m c { sg := 2,  bw := 1,  q := 4,  nr := 16,  nl := 12,  rr := 16,  rl := 12,  b := 1,  cs := 11,  ci := 10,  cw := 6 } (onBufs (k0_part30 (F := F)) c v715)
      { sg := 2,  bw := 1,  q := 4,  nr := 16,  nl := 12,  rr := 16,  rl := 12,  wr := 1,  wl := 1,  b := 1,  cs := 11,  ci := 11,  cw := 6 } any := by
  intro K α k P hk
  unfold onBufs
  rw [k0_part30_eq_skeleton]
  unfold k0_part30_skel
  simp only [semSignalWord, semWaitWord, Prog.lift, Prog.bind_op, Prog.bind_ret, Prog.pure_eq_ret, wp_deviceId]
  refine step_copyS m 3 _ (mem_opp c 3 _ _ _ _) (by decide) ?_
  refine step_doneR m 0 (by decide) (eN _ rfl) ?_
  refine step_doneL m 0 (by decide) (eN _ rfl) ?_
  exact hk _ trivial

theorem part31 (c : Dev nD) :
    Runs m c { sg := 2,  bw := 1,  q := 4,  nr := 16,  nl := 12,  rr := 16,  rl := 12,  wr := 1,  wl := 1,  b := 1,  cs := 11,  ci := 11,  cw := 6 } (onBufs (k0_part31 (F := F)))
      { sg := 2,  bw := 1,  q := 4,  nr := 16,  nl := 12,  rr := 16,  rl := 12,  wr := 3,  wl := 3,  b := 1,  cs := 11,  ci := 11,  cw := 6 } any := by
  intro K α k P hk
  unfold onBufs
  rw [k0_part31_eq_skeleton]
  unfold k0_part31_skel
  simp only [semSignalWord, semWaitWord, Prog.lift, Prog.bind_op, Prog.bind_ret, Prog.pure_eq_ret, wp_deviceId]
  refine step_doneR m 1 (by decide) (eN _ rfl) ?_
  refine step_doneL m 1 (by decide) (eN _ rfl) ?_
  refine step_doneR m 2 (by decide) (eN _ rfl) ?_
  refine step_doneL m 2 (by decide) (eN _ rfl) ?_
  exact hk _ trivial

theorem part32 (c : Dev nD) :
    Runs m c { sg := 2,  bw := 1,  q := 4,  nr := 16,  nl := 12,  rr := 16,  rl := 12,  wr := 3,  wl := 3,  b := 1,  cs := 11,  ci := 11,  cw := 6 } (onBufs (k0_part32 (F := F)))
      { sg := 2,  bw := 1,  q := 4,  nr := 16,  nl := 12,  rr := 16,  rl := 12,  wr := 5,  wl := 5,  b := 1,  cs := 11,  ci := 11,  cw := 6 } any := by
  intro K α k P hk
  unfold onBufs
  rw [k0_part32_eq_skeleton]
  unfold k0_part32_skel
  simp only [semSignalWord, semWaitWord, Prog.lift, Prog.bind_op, Prog.bind_ret, Prog.pure_eq_ret, wp_deviceId]
  refine step_doneR m 3 (by decide) (eN _ rfl) ?_
  refine step_doneL m 3 (by decide) (eN _ rfl) ?_
  refine step_doneR m 4 (by decide) (eN _ rfl) ?_
  refine step_doneL m 4 (by decide) (eN _ rfl) ?_
  exact hk _ trivial

theorem part33 (c : Dev nD) :
    Runs m c { sg := 2,  bw := 1,  q := 4,  nr := 16,  nl := 12,  rr := 16,  rl := 12,  wr := 5,  wl := 5,  b := 1,  cs := 11,  ci := 11,  cw := 6 } (onBufs (k0_part33 (F := F)))
      { sg := 2,  bw := 1,  q := 4,  nr := 16,  nl := 12,  rr := 16,  rl := 12,  wr := 7,  wl := 7,  b := 1,  cs := 11,  ci := 11,  cw := 6 } any := by
  intro K α k P hk
  unfold onBufs
  rw [k0_part33_eq_skeleton]
  unfold k0_part33_skel
  simp only [semSignalWord, semWaitWord, Prog.lift, Prog.bind_op, Prog.bind_ret, Prog.pure_eq_ret, wp_deviceId]
  refine step_doneR m 5 (by decide) (eN _ rfl) ?_
  refine step_doneL m 5 (by decide) (eN _ rfl) ?_
  refine step_doneR m 6 (by decide) (eN _ rfl) ?_
  refine step_doneL m 6 (by decide) (eN _ rfl) ?_
  exact hk _ trivial

theorem part34 (c : Dev nD) :
    Runs m c { sg := 2,  bw := 1,  q := 4,  nr := 16,  nl := 12,  rr := 16,  rl := 12,  wr := 7,  wl := 7,  b := 1,  cs := 11,  ci := 11,  cw := 6 } (onBufs (k0_part34 (F := F)))
      { sg := 2,  bw := 1,  q := 4,  nr := 16,  nl := 12,  rr := 16,  rl := 12,  wr := 9,  wl := 8,  b := 1,  cs := 11,  ci := 11,  cw := 6 } any := by
  intro K α k P hk
  unfold onBufs
  rw [k0_part34_eq_skeleton]
  unfold k0_part34_skel
  simp only [semSignalWord, semWaitWord, Prog.lift, Prog.bind_op, Prog.bind_ret, Prog.pure_eq_ret, wp_deviceId]
  refine step_doneR m 7 (by decide) (eN _ rfl) ?_
  refine step_doneL m 7 (by decide) (eN _ rfl) ?_
  refine step_doneR m 8 (by decide) (eN _ rfl) ?_
  exact hk _ trivial

theorem part35 (c : Dev nD) :
    Runs m c { sg := 2,  bw := 1,  q := 4,  nr := 16,  nl := 12,  rr := 16,  rl := 12,  wr := 9,  wl := 8,  b := 1,  cs := 11,  ci := 11,  cw := 6 } (onBufs (k0_part35 (F := F)))
      { sg := 2,  bw := 1,  q := 4,  nr := 16,  nl := 12,  rr := 16,  rl := 12,  wr := 11,  wl := 10,  b := 1,  cs := 11,  ci := 11,  cw := 6 } any := by
  intro K α k P hk
  unfold onBufs
  rw [k0_part35_eq_skeleton]
  unfold k0_part35_skel
  simp only [semSignalWord, semWaitWord, Prog.lift, Prog.bind_op, Prog.bind_ret, Prog.pure_eq_ret, wp_deviceId]
  refine step_doneL m 8 (by decide) (eN _ rfl) ?_
  refine step_doneR m 9 (by decide) (eN _ rfl) ?_
  refine step_doneL m 9 (by decide) (eN _ rfl) ?_
  refine step_doneR m 10 (by decide) (eN _ rfl) ?_
  exact hk _ trivial

theorem part36 (c : Dev nD) :
    Runs m c { sg := 2,  bw := 1,  q := 4,  nr := 16,  nl := 12,  rr := 16,  rl := 12,  wr := 11,  wl := 10,  b := 1,  cs := 11,  ci := 11,  cw := 6 } (onBufs (k0_part36 (F := F)))
      { sg := 2,  bw := 1,  q := 4,  nr := 16,  nl := 12,  rr := 16,  rl := 12,  wr := 13,  wl := 12,  b := 1,  cs := 11,  ci := 11,  cw := 6 } any := by
  intro K α k P hk
  unfold onBufs
  rw [k0_part36_eq_skeleton]
  unfold k0_part36_skel
  simp only [semSignalWord, semWaitWord, Prog.lift, Prog.bind_op, Prog.bind_ret, Prog.pure_eq_ret, wp_deviceId]
  refine step_doneL m 10 (by decide) (eN _ rfl) ?_
  refine step_doneR m 11 (by decide) (eN _ rfl) ?_
  refine step_doneL m 11 (by decide) (eN _ rfl) ?_
  refine step_doneR m 12 (by decide) (eN _ rfl) ?_
  exact hk _ trivial

theorem part37 (c : Dev nD) :
    Runs m c { sg := 2,  bw := 1,  q := 4,  nr := 16,  nl := 12,  rr := 16,  rl := 12,  wr := 13,  wl := 12,  b := 1,  cs := 11,  ci := 11,  cw := 6 } (onBufs (k0_part37 (F := F)) c)
      { sg := 2,  bw := 1,  q := 4,  nr := 16,  nl := 12,  rr := 16,  rl := 12,  wr := 16,  wl := 12,  b := 1,  cs := 11,  ci := 11,  cw := 7 } any := by
  intro K α k P hk
  unfold onBufs
  rw [k0_part37_eq_skeleton]
  unfold k0_part37_skel
  simp only [semSignalWord, semWaitWord, Prog.lift, Prog.bind_op, Prog.bind_ret, Prog.pure_eq_ret, wp_deviceId]
  refine step_doneR m 13 (by decide) (eN _ rfl) ?_
  refine step_doneR m 14 (by decide) (eN _ rfl) ?_
  refine step_doneR m 15 (by decide) (eN _ rfl) ?_
  refine step_copied m 6 (by decide) (by decide) (eC _ rfl) ?_
  exact hk _ trivial

theorem part38 (c : Dev nD) :
    Runs m c {} (onBufs (k0_part38 (F := F))) { sg := 2, bw := 1, q := 4, nr := 16, nl := 12, rr := 16, rl := 12, wr := 16, wl := 12, b := 1, cs := 11, ci := 11, cw := 9 } (fun x => x = c) := by
  intro K α k P hk
  unfold onBufs
  rw [k0_part38_eq_skeleton]
  unfold k0_part38_skel
  simp only [bind_assoc]
  refine part1 m c _ _ _ _ fun x hx => ?_
  obtain ⟨v2, v5, v10, v16, rfl⟩ := hx
  refine part2 m c _ _ _ _ _ _ fun x hx => ?_
  subst hx
  refine part3 m c _ _ _ _ _ _ fun x hx => ?_
  subst hx
  refine part4 m c _ _ _ _ _ _ fun _ _ => ?_
  refine part5 m c _ _ _ _ _ _ fun _ _ => ?_
  refine part6 m c _ _ _ _ _ _ fun _ _ => ?_
  refine part7 m c _ _ _ _ _ _ fun _ _ => ?_
  refine part8 m c _ _ _ _ _ _ fun _ _ => ?_
  refine part9 m c _ _ _ _ _ _ fun _ _ => ?_
  refine part10 m c _ _ _ _ _ _ fun _ _ => ?_
  refine part11 m c _ _ _ _ _ _ fun _ _ => ?_
  refine part12 m c _ _ _ _ _ fun _ _ => ?_
  refine part13 m c _ _ _ _ _ _ fun _ _ => ?_
  refine part14 m c _ _ _ _ _ _ fun _ _ => ?_
  refine part15 m c _ _ _ _ _ _ fun _ _ => ?_
  refine part16 m c _ _ _ _ _ _ fun _ _ => ?_
  refine part17 m c _ _ _ _ _ _ fun _ _ => ?_
  refine part18 m c _ _ _ _ _ _ fun _ _ => ?_
  refine part19 m c _ _ _ _ _ fun _ _ => ?_
  refine part20 m c _ _ _ _ _ _ _ fun _ _ => ?_
  refine part21 m c _ _ _ _ _ _ fun _ _ => ?_
  refine part22 m c _ _ _ _ _ _ fun _ _ => ?_
  refine part23 m c _ _ _ _ _ _ fun _ _ => ?_
  refine part24 m c _ _ _ _ _ _ _ fun _ _ => ?_
  refine part25 m c _ _ _ _ _ _ fun x hx => ?_
  obtain ⟨v690, w⟩ := x
  subst hx
  refine part26 m c _ _ _ _ _ _ _ fun _ _ => ?_
  refine part27 m c _ _ _ _ _ _ fun _ _ => ?_
  refine part28 m c _ _ _ _ _ _ fun x hx => ?_
  subst hx
  refine part29 m c _ _ _ _ _ _ fun _ _ => ?_
  refine part30 m c _ _ _ _ _ fun _ _ => ?_
  refine part31 m c _ _ _ _ fun _ _ => ?_
  refine part32 m c _ _ _ _ fun _ _ => ?_
  refine part33 m c _ _ _ _ fun _ _ => ?_
  refine part34 m c _ _ _ _ fun _ _ => ?_
  refine part35 m c _ _ _ _ fun _ _ => ?_
  refine part36 m c _ _ _ _ fun _ _ => ?_
  refine part37 m c _ _ _ _ fun _ _ => ?_
  simp only [Prog.lift, Prog.bind_op, Prog.bind_ret, Prog.pure_eq_ret]
  refine step_copiedS m 0 (by decide) (eS _ rfl) ?_
  refine step_copiedS m 1 (by decide) (eS _ rfl) ?_
  exact hk _ rfl

/-- The whole kernel, from a device's first state to its last. -/
theorem whole_body (c : Dev nD) {K : Dev nD × Fin 69 → ℕ} {P : PUnit → sProp (MT nD τ sig Unit (Elt F) ℕ UU ℕ)}
    (hk : State m c K { sg := 2, bw := 1, q := 4, nr := 16, nl := 12, rr := 16, rl := 12, wr := 16, wl := 12, b := 1, cs := 11, ci := 11, cw := 11 } ⊢ |={Set.univ}=> P ⟨⟩) :
    State m c K {} ⊢ Wp c (onBufs (cc0_body (F := F))) P := by
  unfold onBufs
  rw [cc0_body_eq_skeleton]
  unfold cc0_body_skel
  refine part38 m c _ _ _ _ fun x hx => ?_
  subst hx
  simp only [Prog.lift, Prog.bind_op, Prog.bind_ret, Prog.pure_eq_ret]
  refine step_copiedS m 2 (by decide) (eS _ rfl) ?_
  refine step_copiedS m 3 (by decide) (eS _ rfl) ?_
  show State m x K { sg := 2, bw := 1, q := 4, nr := 16, nl := 12, rr := 16, rl := 12, wr := 16, wl := 12, b := 1, cs := 11, ci := 11, cw := 11 } ⊢ Wp x (Prog.ret PUnit.unit) P
  exact hk

end Cert.Gather
end
-- ==== Proof.Pieces.lean ====
/- The buffers cut into the pieces the kernel moves, and put together again; what a device holds first and last. -/
module

public import proofs.«01_k».proof.Proof.Steps2

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem any_intro {Y : Type} (Φ : Y → sProp 𝕄) (y : Y) : Φ y ⊢ iprop(∃ y, Φ y) := by
  iintro H; iexists y; iexact H

/-! ## A buffer in pieces -/

section Cut
variable {T : Type} [Fintype T] [DecidableEq T] {ℓ : Loc nD τ sig} (K : T → Finset (Idx ℓ))
  (hc : ∀ i, ∃ t, i ∈ K t) (hd : ∀ i t t', i ∈ K t → i ∈ K t' → t = t')
include hc hd

theorem pairwise_pieces : ((Finset.univ : Finset T) : Set T).PairwiseDisjoint K := fun t _ t' _ hne =>
  Finset.disjoint_left.mpr fun i h h' => hne (hd i t t' h h')

theorem cover_pieces : Finset.univ.biUnion K = Finset.univ := Finset.ext fun i => by
  rw [Finset.mem_biUnion]
  obtain ⟨t, ht⟩ := hc i
  exact ⟨fun _ => Finset.mem_univ _, fun _ => ⟨t, Finset.mem_univ _, ht⟩⟩

/-- A buffer with known contents is its pieces. -/
theorem whole_pieces (f : Buf (Elt F) ℓ) : (ℓ ↦{full} f : sProp 𝕄) = bigSep Finset.univ fun t => ℓ ↦[K t]{full} f := by
  rw [← pointsTo_biUnion _ _ (pairwise_pieces K hc hd)]
  exact congrArg (fun S => (ℓ ↦[S]{full} f : sProp 𝕄)) (cover_pieces K hc hd).symm

theorem cut_any : iprop(∃ f, ℓ ↦{full} f : sProp 𝕄) ⊢ bigSep Finset.univ fun t => iprop(∃ f, ℓ ↦[K t]{full} f) := by
  iintro ⟨%f, H⟩
  ihave H := (Entails.of_eq (whole_pieces K hc hd f)) $$ H
  have hm : (bigSep Finset.univ fun t => ℓ ↦[K t]{full} f : sProp 𝕄) ⊢ bigSep Finset.univ fun t => iprop(∃ f, ℓ ↦[K t]{full} f) :=
    bigSep_mono fun t _ => any_intro (fun f : Buf (Elt F) ℓ => (ℓ ↦[K t]{full} f : sProp 𝕄)) f
  iapply hm
  iexact H

theorem join_any (f₀ : Buf (Elt F) ℓ) :
    (bigSep Finset.univ fun t => iprop(∃ f, ℓ ↦[K t]{full} f) : sProp 𝕄) ⊢ iprop(∃ f, ℓ ↦{full} f) := by
  haveI : ∀ _ : T, Nonempty (Buf (Elt F) ℓ) := fun _ => ⟨f₀⟩
  iintro H
  ihave H := (bigSep_exists_pi Finset.univ fun t (f : Buf (Elt F) ℓ) => (ℓ ↦[K t]{full} f : sProp 𝕄)) $$ H
  icases H with ⟨%fs, H⟩
  ihave H := (pointsTo_biUnion_join Finset.univ K fs f₀ (pairwise_pieces K hc hd)) $$ H
  icases H with ⟨%g, -, H⟩
  iexists g
  ihave H := (Entails.of_eq (congrArg (fun S => (ℓ ↦[S]{full} g : sProp 𝕄)) (cover_pieces K hc hd))) $$ H
  iexact H

end Cut

section Bufs
variable (c : Dev nD)

/-! The pieces' ownership, by the rectangles. -/

theorem rPts_eq (n : Fin 20) (q : Sh) (f : Vec F S5x1536x768 .i8) :
    (rPts c n q f : sProp 𝕄) = ((c : Thread nD τ).loc cc0_scratch0 ↦[(rR n).set]{q} f) := by
  unfold rPts; exact congrArg (fun S => ((c : Thread nD τ).loc cc0_scratch0 ↦[S]{q} f : sProp 𝕄)) (rP_set n)
theorem lPts_eq (n : Fin 16) (q : Sh) (f : Vec F S4x1536x768 .i8) :
    (lPts c n q f : sProp 𝕄) = ((c : Thread nD τ).loc cc0_scratch1 ↦[(lR n).set]{q} f) := by
  unfold lPts; exact congrArg (fun S => ((c : Thread nD τ).loc cc0_scratch1 ↦[S]{q} f : sProp 𝕄)) (lP_set n)
theorem cPts_eq (p : Fin 2) (f : Vec F S2x1536x1536 .f32) :
    (cPts c p f : sProp 𝕄) = ((c : Thread nD τ).loc cc0_scratch3 ↦[(cR p).set]{full} f) := by
  unfold cPts; exact congrArg (fun S => ((c : Thread nD τ).loc cc0_scratch3 ↦[S]{full} f : sProp 𝕄)) (cP_set p)
theorem sPts_eq (p : Fin 4) (f : Vec F S2x1536x1536 .f32) :
    (sPts c p f : sProp 𝕄) = ((c : Thread nD τ).loc cc0_scratch3 ↦[(sR p).set]{full} f) := by
  unfold sPts; exact congrArg (fun S => ((c : Thread nD τ).loc cc0_scratch3 ↦[S]{full} f : sProp 𝕄)) (sP_set p)
theorem oPts_eq (i : Fin 7) (f : Vec F S12288x1536 .f32) :
    (oPts c i f : sProp 𝕄) = ((c : Thread nD τ).loc main_v1 ↦[(oR (org i.val c)).set]{full} f) := by
  unfold oPts; exact congrArg (fun S => ((c : Thread nD τ).loc main_v1 ↦[S]{full} f : sProp 𝕄)) (oP_set _)
theorem pPts_eq (p : Fin 4) (f : Vec F S12288x1536 .f32) :
    (pPts c p f : sProp 𝕄) = ((c : Thread nD τ).loc main_v1 ↦[(pR (opp c) p).set]{full} f) := by
  unfold pPts; exact congrArg (fun S => ((c : Thread nD τ).loc main_v1 ↦[S]{full} f : sProp 𝕄)) (pP_set _ p)

abbrev KR (n : Fin 20) : Finset S5x1536x768.Idx := (rR n).set
theorem coverR (i : S5x1536x768.Idx) : ∃ n, i ∈ KR n := by
  have h0 : (i 0).val < 5 := (i 0).isLt
  have h1 : (i 1).val < 1536 := (i 1).isLt
  refine ⟨⟨4 * (i 0).val + (i 1).val / 384, by omega⟩, ?_⟩
  refine (mem_rR _ i).mpr ?_
  show (i 0).val = (4 * (i 0).val + (i 1).val / 384) / 4 ∧ 384 * ((4 * (i 0).val + (i 1).val / 384) % 4) ≤ (i 1).val
    ∧ (i 1).val < 384 * ((4 * (i 0).val + (i 1).val / 384) % 4) + 384
  omega
theorem onceR (i : S5x1536x768.Idx) (n n' : Fin 20) (h : i ∈ KR n) (h' : i ∈ KR n') : n = n' := by
  have := (mem_rR n i).mp h
  have := (mem_rR n' i).mp h'
  exact Fin.ext (by omega)

abbrev KL (n : Fin 16) : Finset S4x1536x768.Idx := (lR n).set
theorem coverL (i : S4x1536x768.Idx) : ∃ n, i ∈ KL n := by
  have h0 : (i 0).val < 4 := (i 0).isLt
  have h1 : (i 1).val < 1536 := (i 1).isLt
  refine ⟨⟨4 * (i 0).val + (i 1).val / 384, by omega⟩, ?_⟩
  refine (mem_lR _ i).mpr ?_
  show (i 0).val = (4 * (i 0).val + (i 1).val / 384) / 4 ∧ 384 * ((4 * (i 0).val + (i 1).val / 384) % 4) ≤ (i 1).val
    ∧ (i 1).val < 384 * ((4 * (i 0).val + (i 1).val / 384) % 4) + 384
  omega
theorem onceL (i : S4x1536x768.Idx) (n n' : Fin 16) (h : i ∈ KL n) (h' : i ∈ KL n') : n = n' := by
  have := (mem_lR n i).mp h
  have := (mem_lR n' i).mp h'
  exact Fin.ext (by omega)

abbrev KC (p : Fin 2) : Finset S2x1536x1536.Idx := (cR p).set
theorem coverC (i : S2x1536x1536.Idx) : ∃ p, i ∈ KC p := by
  refine ⟨i 0, ?_⟩
  exact (mem_cR _ i).mpr rfl
theorem onceC (i : S2x1536x1536.Idx) (p p' : Fin 2) (h : i ∈ KC p) (h' : i ∈ KC p') : p = p' := by
  have := (mem_cR p i).mp h
  have := (mem_cR p' i).mp h'
  exact Fin.ext (by omega)

/-- The product buffer as it is left: its first slot, and the quarters of the second. -/
abbrev KE (x : Unit ⊕ Fin 4) : Finset S2x1536x1536.Idx := x.elim (fun _ => (cR 0).set) fun p => (sR p).set
theorem coverE (i : S2x1536x1536.Idx) : ∃ x, i ∈ KE x := by
  have h0 : (i 0).val < 2 := (i 0).isLt
  have h1 : (i 1).val < 1536 := (i 1).isLt
  by_cases h : (i 0).val = 0
  · refine ⟨.inl (), ?_⟩
    exact (mem_cR 0 i).mpr h
  · refine ⟨.inr ⟨(i 1).val / 384, by omega⟩, ?_⟩
    refine (mem_sR _ i).mpr ?_
    show (i 0).val = 1 ∧ 384 * ((i 1).val / 384) ≤ (i 1).val ∧ (i 1).val < 384 * ((i 1).val / 384) + 384
    omega
theorem onceE (i : S2x1536x1536.Idx) (x x' : Unit ⊕ Fin 4) (h : i ∈ KE x) (h' : i ∈ KE x') : x = x' := by
  have key : ∀ x, i ∈ KE x → ((i 0).val = 0 ∧ x = .inl ()) ∨ ∃ p : Fin 4, (i 0).val = 1 ∧ 384 * p.val ≤ (i 1).val ∧ (i 1).val < 384 * p.val + 384 ∧ x = .inr p := by
    rintro (⟨⟩ | p) h
    · rw [show KE (.inl ⟨⟩) = (cR 0).set from rfl] at h
      exact .inl ⟨(mem_cR 0 i).mp h, rfl⟩
    · rw [show KE (.inr p) = (sR p).set from rfl] at h
      have h := (mem_sR p i).mp h
      exact .inr ⟨p, h.1, h.2.1, h.2.2, rfl⟩
  rcases key x h with ⟨h1, rfl⟩ | ⟨p, h1, h2, h3, rfl⟩ <;> rcases key x' h' with ⟨h1', rfl⟩ | ⟨p', h1', h2', h3', rfl⟩
  · rfl
  · omega
  · omega
  · exact congrArg _ (Fin.ext (by omega))

/-- The result: seven whole blocks and the opposite device's in quarters. -/
abbrev KO (x : Fin 7 ⊕ Fin 4) : Finset S12288x1536.Idx := x.elim (fun i => (oR (org i.val c)).set) fun p => (pR (opp c) p).set
theorem coverO (i : S12288x1536.Idx) : ∃ x, i ∈ KO c x := by
  have h0 : (i 0).val < 12288 := (i 0).isLt
  rcases org_cover c ⟨(i 0).val / 1536, by show _ < 8; omega⟩ with h | ⟨j, h⟩
  · refine ⟨.inr ⟨(i 0).val % 1536 / 384, by omega⟩, ?_⟩
    refine (mem_pR _ _ i).mpr ?_
    rw [← h]
    show 1536 * ((i 0).val / 1536) + 384 * ((i 0).val % 1536 / 384) ≤ (i 0).val ∧ (i 0).val < 1536 * ((i 0).val / 1536) + 384 * ((i 0).val % 1536 / 384) + 384
    omega
  · refine ⟨.inl j, ?_⟩
    refine (mem_oR _ i).mpr ?_
    rw [← h]
    show 1536 * ((i 0).val / 1536) ≤ (i 0).val ∧ (i 0).val < 1536 * ((i 0).val / 1536) + 1536
    omega
theorem onceO (i : S12288x1536.Idx) (x x' : Fin 7 ⊕ Fin 4) (h : i ∈ KO c x) (h' : i ∈ KO c x') : x = x' := by
  have key : ∀ x, i ∈ KO c x → (∃ j : Fin 7, (i 0).val / 1536 = (org j.val c).val ∧ x = .inl j)
      ∨ ∃ p : Fin 4, (i 0).val / 1536 = (opp c).val ∧ (i 0).val % 1536 / 384 = p.val ∧ x = .inr p := by
    rintro (j | p) h
    · rw [show KO c (.inl j) = (oR (org j.val c)).set from rfl] at h
      have h := (mem_oR _ i).mp h
      exact .inl ⟨j, by omega, rfl⟩
    · rw [show KO c (.inr p) = (pR (opp c) p).set from rfl] at h
      have h := (mem_pR _ p i).mp h
      have := p.isLt
      exact .inr ⟨p, by omega, by omega, rfl⟩
  rcases key x h with ⟨j, h1, rfl⟩ | ⟨p, h1, h2, rfl⟩ <;> rcases key x' h' with ⟨j', h1', rfl⟩ | ⟨p', h1', h2', rfl⟩
  · exact congrArg _ (org_inj c j j' (Fin.ext (h1.symm.trans h1')))
  · exact absurd (Fin.ext (h1.symm.trans h1')) (org_ne_opp j c)
  · exact absurd (Fin.ext (h1'.symm.trans h1)) (org_ne_opp j' c)
  · exact congrArg _ (Fin.ext (h2.symm.trans h2'))

/-- The four scratch buffers, each whole at some contents. -/
def any0 : sProp 𝕄 := iprop(∃ f, ((c : Thread nD τ).loc cc0_scratch0) ↦{full} f)
def any1 : sProp 𝕄 := iprop(∃ f, ((c : Thread nD τ).loc cc0_scratch1) ↦{full} f)
def any2 : sProp 𝕄 := iprop(∃ f, ((c : Thread nD τ).loc cc0_scratch2) ↦{full} f)
def any3 : sProp 𝕄 := iprop(∃ f, ((c : Thread nD τ).loc cc0_scratch3) ↦{full} f)
/-- The result array whole at given contents. -/
def resPts (f : Vec F S12288x1536 .f32) : sProp 𝕄 := ((c : Thread nD τ).loc main_v1) ↦{full} f

theorem cut_r : (any0 c : sProp 𝕄) ⊢ bigSep Finset.univ fun n : Fin 20 => den m c (.rRaw n) := by
  simp only [den, rPts_eq]
  exact cut_any (ℓ := (c : Thread nD τ).loc cc0_scratch0) KR coverR onceR
theorem cut_l : (any1 c : sProp 𝕄) ⊢ bigSep Finset.univ fun n : Fin 16 => den m c (.lRaw n) := by
  simp only [den, lPts_eq]
  exact cut_any (ℓ := (c : Thread nD τ).loc cc0_scratch1) KL coverL onceL
theorem cut_c : (any3 c : sProp 𝕄) ⊢ bigSep Finset.univ fun p : Fin 2 => den m c (.cRaw p) := by
  simp only [den, cPts_eq]
  exact cut_any (ℓ := (c : Thread nD τ).loc cc0_scratch3) KC coverC onceC
theorem res_pieces (f : Vec F S12288x1536 .f32) : (resPts c f : sProp 𝕄)
    = iprop((bigSep Finset.univ fun i : Fin 7 => oPts c i f) ∗ bigSep Finset.univ fun p : Fin 4 => pPts c p f) := by
  simp only [oPts_eq, pPts_eq]
  exact (whole_pieces (ℓ := (c : Thread nD τ).loc main_v1) (KO c) (coverO c) (onceO c) f).trans (bigSep_univ_sum _)
theorem join_r : (bigSep Finset.univ fun n : Fin 20 => rPts c n full (rBuf m c) : sProp 𝕄) ⊢ any0 c := by
  simp only [rPts_eq]
  refine (Entails.of_eq (whole_pieces (ℓ := (c : Thread nD τ).loc cc0_scratch0) KR coverR onceR (rBuf m c)).symm).trans ?_
  exact any_intro (fun f : Vec F S5x1536x768 .i8 => ((c : Thread nD τ).loc cc0_scratch0 ↦{full} f : sProp 𝕄)) (rBuf m c)
include m in
theorem join_l : (bigSep Finset.univ fun n : Fin 16 => iprop(∃ f, lPts (F := F) c n full f) : sProp 𝕄) ⊢ any1 c := by
  simp only [lPts_eq]
  exact join_any (ℓ := (c : Thread nD τ).loc cc0_scratch1) KL coverL onceL (lBuf m c)
include m in
theorem join_c : iprop((∃ f, cPts (F := F) c 0 f) ∗ bigSep Finset.univ fun p : Fin 4 => iprop(∃ f, sPts (F := F) c p f)) ⊢ (any3 c : sProp 𝕄) := by
  refine BIBase.Entails.trans ?_ (join_any (ℓ := (c : Thread nD τ).loc cc0_scratch3) KE coverE onceE (cBuf m c 0))
  simp only [cPts_eq, sPts_eq]
  rw [bigSep_univ_sum, show (Finset.univ : Finset Unit) = {()} from rfl, bigSep_singleton]
  exact .rfl

end Bufs

/-! ## A family in two -/

theorem fin_two {a b : ℕ} (Φ : Fin (a + b) → sProp 𝕄) :
    bigSep Finset.univ Φ = iprop((bigSep Finset.univ fun i : Fin a => Φ (Fin.castAdd b i)) ∗ bigSep Finset.univ fun i : Fin b => Φ (Fin.natAdd a i)) := by
  rw [bigSep_univ_equiv finSumFinEquiv Φ, bigSep_univ_sum]
  rfl

/-! ## What a device holds at the start and at the end -/

theorem H_of_list (c : Dev nD) (s : St) (l : List Res) (hl : l.Nodup) (h : ∀ a, held s a ↔ a ∈ l) : H m c s = bigSepL l (den m c) := by
  classical
  unfold H
  exact bigSep_eq_bigSepL_of_eq l (by ext a; simp [h a]) hl _

abbrev many {n : ℕ} (e : Fin n → Res) : List Res := (List.finRange n).map e
abbrev fam (c : Dev nD) {n : ℕ} (e : Fin n → Res) : sProp 𝕄 := bigSep Finset.univ fun t => den m c (e t)

theorem H_first (c : Dev nD) : H m c {} = iprop(bigSepL [.barL, .barR, .barW, .bRaw, .aStg, .bStg] (den m c)
    ∗ fam m c .rTok ∗ fam m c .lTok ∗ fam m c .rIn ∗ fam m c .lIn ∗ fam m c .cTok ∗ fam m c .sTok
    ∗ fam m c .rRaw ∗ fam m c .lRaw ∗ fam m c .cRaw) := by
  rw [H_of_list m c {} ([.barL, .barR, .barW, .bRaw, .aStg, .bStg] ++ (many .rTok ++ (many .lTok ++ (many .rIn ++ (many .lIn
    ++ (many .cTok ++ (many .sTok ++ (many .rRaw ++ (many .lRaw ++ many .cRaw))))))))) (by decide +kernel) ?_]
  · simp only [bigSepL_append, bigSepL_fin]
  · intro a
    cases a <;> simp [held, many] <;> omega

abbrev sLast : St := { sg := 2, bw := 1, q := 4, nr := 16, nl := 12, rr := 16, rl := 12, wr := 16, wl := 12, b := 1, cs := 11, ci := 11, cw := 11 }

theorem H_last (c : Dev nD) : H m c sLast = iprop(bigSepL [.barD, .bHold, .aStg, .bStg, .cRaw 0] (den m c)
    ∗ fam m c .rEnd ∗ fam m c .rSrc ∗ fam m c .lEnd ∗ fam m c .lSrc ∗ fam m c .rKeep ∗ fam m c .lKeep
    ∗ fam m c (fun t : Fin 4 => .lRaw ⟨t.val, by omega⟩) ∗ fam m c .rGot ∗ fam m c .lGot ∗ fam m c .cEnd ∗ fam m c .sEnd ∗ fam m c .sRaw) := by
  rw [H_of_list m c sLast ([.barD, .bHold, .aStg, .bStg, .cRaw 0] ++ (many .rEnd ++ (many .rSrc ++ (many .lEnd ++ (many .lSrc
    ++ (many .rKeep ++ (many .lKeep ++ (many (fun t : Fin 4 => .lRaw ⟨t.val, by omega⟩) ++ (many .rGot ++ (many .lGot ++ (many .cEnd
    ++ (many .sEnd ++ many .sRaw)))))))))))) (by decide +kernel) ?_]
  · simp only [bigSepL_append, bigSepL_fin]
  · intro a
    cases a
    case lRaw n =>
      simp [held, many]
      exact ⟨fun h => ⟨⟨n.val, h⟩, rfl⟩, fun ⟨t, ht⟩ => ht ▸ t.isLt⟩
    all_goals simp [held, many]
    all_goals omega

/-! ## Shares put together -/

theorem r_join (c : Dev nD) (n : Fin 20) (q : Sh) (f : Vec F S5x1536x768 .i8) :
    iprop(rPts c n q.left f ∗ rPts c n q.right f) ⊢ (rPts c n q f : sProp 𝕄) := by
  unfold rPts; exact (pointsTo_share (PosShare.mem_left_op_right q)).2
theorem l_join (c : Dev nD) (n : Fin 16) (q : Sh) (f : Vec F S4x1536x768 .i8) :
    iprop(lPts c n q.left f ∗ lPts c n q.right f) ⊢ (lPts c n q f : sProp 𝕄) := by
  unfold lPts; exact (pointsTo_share (PosShare.mem_left_op_right q)).2

/-- The two buffers the rows travel through, whole again. -/
theorem back_rl (c : Dev nD) : iprop(fam m c .rSrc ∗ fam m c .lSrc ∗ fam m c .rKeep ∗ fam m c .lKeep ∗ fam m c (fun t : Fin 4 => .lRaw ⟨t.val, by omega⟩))
    ⊢ iprop(any0 c ∗ any1 c) := by
  have e1 : fam m c .rSrc = iprop(fam m c (fun t : Fin 4 => .rSrc ⟨t.val, by omega⟩) ∗ fam m c (fun t : Fin 12 => .rSrc ⟨4 + t.val, by omega⟩)) :=
    fin_two (a := 4) (b := 12) fun t => den m c (.rSrc t)
  have e2 : fam m c .lSrc = iprop(fam m c (fun t : Fin 4 => .lSrc ⟨t.val, by omega⟩) ∗ fam m c (fun t : Fin 8 => .lSrc ⟨4 + t.val, by omega⟩)) :=
    fin_two (a := 4) (b := 8) fun t => den m c (.lSrc t)
  have e3 : fam m c .rKeep = iprop((fam m c (fun t : Fin 4 => .rKeep ⟨t.val, by omega⟩) ∗ fam m c (fun t : Fin 12 => .rKeep ⟨4 + t.val, by omega⟩))
      ∗ fam m c (fun t : Fin 4 => .rKeep ⟨16 + t.val, by omega⟩)) :=
    (fin_two (a := 16) (b := 4) fun t => den m c (.rKeep t)).trans
      (congrArg (fun X => iprop(X ∗ _)) (fin_two (a := 4) (b := 12) fun t => den m c (.rKeep ⟨t.val, by omega⟩)))
  have e4 : fam m c .lKeep = iprop(fam m c (fun t : Fin 8 => .lKeep ⟨t.val, by omega⟩) ∗ fam m c (fun t : Fin 4 => .lKeep ⟨8 + t.val, by omega⟩)) :=
    fin_two (a := 8) (b := 4) fun t => den m c (.lKeep t)
  have f1 : iprop((bigSep Finset.univ fun n : Fin 4 => rPts c ⟨n.val, by omega⟩ full (rBuf m c))
      ∗ (bigSep Finset.univ fun n : Fin 12 => rPts c ⟨4 + n.val, by omega⟩ full (rBuf m c))
      ∗ bigSep Finset.univ fun n : Fin 4 => rPts c ⟨16 + n.val, by omega⟩ full (rBuf m c)) ⊢ any0 c := by
    refine BIBase.Entails.trans ?_ (join_r m c)
    rw [fin_two (a := 16) (b := 4), fin_two (a := 4) (b := 12)]
    iintro ⟨H1, H2, H3⟩
    isplitl [H1 H2]
    · isplitl [H1]; · iexact H1
      iexact H2
    iexact H3
  have f2 : iprop((bigSep Finset.univ fun n : Fin 4 => iprop(∃ f, lPts (F := F) c ⟨n.val, by omega⟩ full f))
      ∗ (bigSep Finset.univ fun n : Fin 8 => iprop(∃ f, lPts (F := F) c ⟨4 + n.val, by omega⟩ full f))
      ∗ bigSep Finset.univ fun n : Fin 4 => iprop(∃ f, lPts (F := F) c ⟨12 + n.val, by omega⟩ full f)) ⊢ any1 c := by
    refine BIBase.Entails.trans ?_ (join_l m c)
    rw [fin_two (a := 12) (b := 4), fin_two (a := 4) (b := 8)]
    iintro ⟨H1, H2, H3⟩
    isplitl [H1 H2]
    · isplitl [H1]; · iexact H1
      iexact H2
    iexact H3
  have g1 : iprop(fam m c (fun t : Fin 4 => .rSrc ⟨t.val, by omega⟩) ∗ fam m c (fun t : Fin 4 => .lSrc ⟨t.val, by omega⟩)
      ∗ fam m c (fun t : Fin 4 => .rKeep ⟨t.val, by omega⟩)) ⊢ bigSep Finset.univ fun n : Fin 4 => rPts c ⟨n.val, by omega⟩ full (rBuf m c) := by
    rw [← bigSep_sep', ← bigSep_sep']
    refine bigSep_mono fun n _ => ?_
    have hn := n.isLt
    show iprop(rPts c _ full.left (rBuf m c) ∗ lsPts m c _ ∗ rPts c _ (ksh _) (rBuf m c)) ⊢ _
    unfold lsPts ksh
    rw [dif_pos hn, if_pos hn]
    iintro ⟨H1, H2, H3⟩
    iapply (r_join c _ full (rBuf m c))
    isplitl [H1]; · iexact H1
    iapply (r_join c _ full.right (rBuf m c))
    isplitl [H2]; · iexact H2
    iexact H3
  have g2 : iprop(fam m c (fun t : Fin 12 => .rSrc ⟨4 + t.val, by omega⟩) ∗ fam m c (fun t : Fin 12 => .rKeep ⟨4 + t.val, by omega⟩))
      ⊢ bigSep Finset.univ fun n : Fin 12 => rPts c ⟨4 + n.val, by omega⟩ full (rBuf m c) := by
    rw [← bigSep_sep']
    refine bigSep_mono fun n _ => ?_
    have hn := n.isLt
    show iprop(rPts c _ full.left (rBuf m c) ∗ rPts c _ (ksh _) (rBuf m c)) ⊢ _
    unfold ksh
    rw [if_neg (by show ¬ 4 + n.val < 4; omega), if_pos (by show 4 + n.val < 16; omega)]
    exact r_join c _ full (rBuf m c)
  have g3 : fam m c (fun t : Fin 4 => .rKeep ⟨16 + t.val, by omega⟩) ⊢ bigSep Finset.univ fun n : Fin 4 => rPts c ⟨16 + n.val, by omega⟩ full (rBuf m c) := by
    refine bigSep_mono fun n _ => ?_
    show rPts c _ (ksh _) (rBuf m c) ⊢ _
    unfold ksh
    rw [if_neg (by show ¬ 16 + n.val < 4; omega), if_neg (by show ¬ 16 + n.val < 16; omega)]
  have g4 : iprop(fam m c (fun t : Fin 8 => .lSrc ⟨4 + t.val, by omega⟩) ∗ fam m c (fun t : Fin 8 => .lKeep ⟨t.val, by omega⟩))
      ⊢ bigSep Finset.univ fun n : Fin 8 => iprop(∃ f, lPts (F := F) c ⟨4 + n.val, by omega⟩ full f) := by
    rw [← bigSep_sep']
    refine bigSep_mono fun n _ => ?_
    have hn := n.isLt
    have e : (lnx ⟨n.val, by omega⟩ : Fin 16) = ⟨4 + n.val, by omega⟩ := Fin.ext (Nat.add_comm _ _)
    show iprop(lsPts m c _ ∗ lPts c (lnx ⟨n.val, by omega⟩) (if n.val < 8 then full.right else full) (lBuf m c)) ⊢ _
    unfold lsPts
    rw [dif_neg (by show ¬ 4 + n.val < 4; omega), if_pos hn, e]
    exact (l_join c _ full (lBuf m c)).trans (any_intro (fun f => (lPts c ⟨4 + n.val, by omega⟩ full f : sProp 𝕄)) (lBuf m c))
  have g5 : fam m c (fun t : Fin 4 => .lKeep ⟨8 + t.val, by omega⟩)
      ⊢ bigSep Finset.univ fun n : Fin 4 => iprop(∃ f, lPts (F := F) c ⟨12 + n.val, by omega⟩ full f) := by
    refine bigSep_mono fun n _ => ?_
    have e : (lnx ⟨8 + n.val, by omega⟩ : Fin 16) = ⟨12 + n.val, by omega⟩ := Fin.ext (by show 8 + n.val + 4 = 12 + n.val; omega)
    show lPts c (lnx ⟨8 + n.val, by omega⟩) (if 8 + n.val < 8 then full.right else full) (lBuf m c) ⊢ _
    rw [if_neg (by omega), e]
    exact any_intro (fun f => (lPts c ⟨12 + n.val, by omega⟩ full f : sProp 𝕄)) (lBuf m c)
  rw [e1, e2, e3, e4]
  iintro ⟨⟨A1, A2⟩, ⟨B1, B2⟩, ⟨⟨C1, C2⟩, C3⟩, ⟨D1, D2⟩, E⟩
  isplitl [A1 A2 B1 C1 C2 C3]
  · iapply f1
    isplitl [A1 B1 C1]
    · iapply g1
      isplitl [A1]; · iexact A1
      isplitl [B1]; · iexact B1
      iexact C1
    isplitl [A2 C2]
    · iapply g2
      isplitl [A2]; · iexact A2
      iexact C2
    iapply g3
    iexact C3
  · iapply f2
    isplitl [E]; · iexact E
    isplitl [B2 D1]
    · iapply g4
      isplitl [B2]; · iexact B2
      iexact D1
    iapply g5
    iexact D2

end Cert.Gather
end
-- ==== Proof.Ghost.lean ====
/- The protocol's start: every semaphore's cell opened, its tokens dealt around the ring, and the credit a device begins with. -/
module

public import proofs.«01_k».proof.Proof.Pieces
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A family over the semaphores, by their uses -/

section Seg

/-- The part at the `n`-th DMA semaphore. -/
def atN (Ψ : SemLoc sig → sProp 𝕄) (n : ℕ) : sProp 𝕄 := if h : n < 70 then Ψ (SemLoc.dma (⟨n, h⟩ : DmaSem sig)) else BIBase.emp
def stretch (Ψ : SemLoc sig → sProp 𝕄) (o n : ℕ) : sProp 𝕄 := bigSep (Finset.univ : Finset (Fin n)) fun i => atN Ψ (o + i.val)

theorem stretch_add (Ψ : SemLoc sig → sProp 𝕄) (o a b : ℕ) : stretch Ψ o (a + b) = iprop(stretch Ψ o a ∗ stretch Ψ (o + a) b) := by
  unfold stretch
  rw [fin_two]
  refine congrArg (fun X => iprop(_ ∗ X)) (bigSep_congr fun i _ => ?_)
  exact congrArg (atN Ψ) (by show o + (a + i.val) = o + a + i.val; omega)

theorem stretch_eq (Ψ : SemLoc sig → sProp 𝕄) (o n : ℕ) (h : o + n ≤ 70) (e : Fin n → DmaSem sig) (he : ∀ i, (e i).val = o + i.val) :
    stretch Ψ o n = bigSep Finset.univ fun i : Fin n => Ψ (.dma (e i)) := by
  unfold stretch atN
  refine bigSep_congr fun i _ => ?_
  have hi := i.isLt
  rw [dif_pos (by omega)]
  exact congrArg (fun q => Ψ (.dma q)) (Fin.ext (he i).symm)

abbrev lastS : DmaSem sig := ⟨69, by decide⟩

/-- The launch's own semaphores: the sends' and arrivals', the copies', and one that nothing uses. -/
theorem own_uses (Ψ : SemLoc sig → sProp 𝕄) : (bigSep Finset.univ fun k : Fin 68 => Ψ (osem k)) = iprop((bigSep Finset.univ fun t : Fin 16 => Ψ (.dma (rsS t)))
    ∗ (bigSep Finset.univ fun t : Fin 16 => Ψ (.dma (rrS t))) ∗ (bigSep Finset.univ fun t : Fin 12 => Ψ (.dma (lsS t)))
    ∗ (bigSep Finset.univ fun t : Fin 12 => Ψ (.dma (lrS t))) ∗ (bigSep Finset.univ fun i : Fin 7 => Ψ (.dma (cpS i)))
    ∗ (bigSep Finset.univ fun p : Fin 4 => Ψ (.dma (spS p))) ∗ Ψ (.dma lastS)) := by
  have h1 : stretch Ψ 2 68 = bigSep Finset.univ fun k : Fin 68 => Ψ (osem k) := stretch_eq Ψ 2 68 (by decide) (fun k => ⟨k.val + 2, by have := k.isLt; show _ < 70; omega⟩) fun i => Nat.add_comm _ _
  have h2 : stretch Ψ 69 1 = Ψ (.dma lastS) := by
    rw [stretch_eq Ψ 69 1 (by decide) (fun _ => lastS) (fun i => by have := i.isLt; show 69 = 69 + i.val; omega), show (Finset.univ : Finset (Fin 1)) = {0} from rfl, bigSep_singleton]
  rw [← h1, show (68 : ℕ) = 16 + (16 + (12 + (12 + (7 + (4 + 1))))) from rfl, stretch_add, stretch_add, stretch_add, stretch_add, stretch_add, stretch_add,
    stretch_eq Ψ 2 16 (by decide) rsS fun _ => rfl, stretch_eq Ψ (2 + 16) 16 (by decide) rrS fun _ => rfl, stretch_eq Ψ (2 + 16 + 16) 12 (by decide) lsS fun _ => rfl,
    stretch_eq Ψ (2 + 16 + 16 + 12) 12 (by decide) lrS fun _ => rfl, stretch_eq Ψ (2 + 16 + 16 + 12 + 12) 7 (by decide) cpS fun _ => rfl,
    stretch_eq Ψ (2 + 16 + 16 + 12 + 12 + 7) 4 (by decide) spS fun _ => rfl]
  exact congrArg (fun X => iprop(_ ∗ _ ∗ _ ∗ _ ∗ _ ∗ _ ∗ X)) h2

/-- All of the protocol's: the barrier's, then those. -/
theorem all_uses (Ψ : SemLoc sig → sProp 𝕄) : (bigSep Finset.univ fun k : Fin 69 => Ψ (csem k)) = iprop(Ψ (.reg barS) ∗ bigSep Finset.univ fun k : Fin 68 => Ψ (osem k)) := by
  have h := fin_two (a := 1) (b := 68) fun k => Ψ (csem k)
  refine h.trans ?_
  have h0 : (bigSep Finset.univ fun i : Fin 1 => Ψ (csem (Fin.castAdd 68 i))) = Ψ (.reg barS) := by
    rw [show (Finset.univ : Finset (Fin 1)) = {0} from rfl, bigSep_singleton]
    exact congrArg Ψ (dif_pos rfl)
  have h1 : (bigSep Finset.univ fun k : Fin 68 => Ψ (csem (Fin.natAdd 1 k))) = bigSep Finset.univ fun k : Fin 68 => Ψ (osem k) :=
    bigSep_congr fun k _ => congrArg Ψ ((dif_neg (by show ¬ 1 + k.val = 0; omega)).trans
      (congrArg SemLoc.dma (Fin.ext (by show 1 + k.val + 1 = k.val + 2; omega))))
  rw [h0, h1]

end Seg

theorem csem_injective : Function.Injective csem := by
  intro k k' h
  unfold csem at h
  split at h <;> split at h
  · exact Fin.ext (by omega)
  · cases h
  · cases h
  · have := congrArg Fin.val (SemLoc.dma.inj h)
    have : k.val + 1 = k'.val + 1 := this
    exact Fin.ext (by omega)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- The duty tokens minted: a `false` one for every cell, and a `true` one for every barrier's. -/
abbrev tokOf (x : (Dev nD × Fin 69) ⊕ Dev nD) : GSem nD τ sig × ℕ × Bool := x.elim (fun p => (kcell p, 0, false)) fun c => (barCell c, 0, true)
theorem tokOf_injective : Function.Injective tokOf := by
  rintro (p | c) (p' | c') h
  · exact congrArg _ (kcell_injective (congrArg Prod.fst h))
  · exact absurd (congrArg (fun x : GSem nD τ sig × ℕ × Bool => x.2.2) h) Bool.false_ne_true
  · exact absurd (congrArg (fun x : GSem nD τ sig × ℕ × Bool => x.2.2) h).symm Bool.false_ne_true
  · exact congrArg _ (congrArg (fun x : GSem nD τ sig × ℕ × Bool => x.1.1.1) h)
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- What a device is dealt: its cells' rounds, positions and marks, and their tokens. -/
def G (c : Dev nD) : sProp 𝕄 :=
  iprop((bigSep Finset.univ fun k : Fin 69 => roundState ER (rd m) (kcell (c, k)) 0)
    ∗ (bigSep Finset.univ fun k : Fin 69 => atPos ER (kcell (c, k)) 0 ∅ 0) ∗ (bigSep Finset.univ fun k : Fin 69 => reached ER (kcell (c, k)) 0)
    ∗ (bigSep Finset.univ fun k : Fin 69 => dutyTok ER (kcell (c, k)) 0 false) ∗ dutyTok ER (barCell c) 0 true)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 69 => Φ (kcell (c, k)) := by
    unfold ringCells; rw [bigSep_map, bigSep_univ_prod]; rfl
  have hT : bigSep ringToks (fun x => (dutyTok ER x.1 x.2.1 x.2.2 : sProp 𝕄))
      = iprop((bigSep Finset.univ fun c : Dev nD => bigSep Finset.univ fun k : Fin 69 => dutyTok ER (kcell (c, k)) 0 false)
        ∗ bigSep Finset.univ fun c : Dev nD => dutyTok ER (barCell c) 0 true) := by
    unfold ringToks; rw [bigSep_map, bigSep_univ_sum, bigSep_univ_prod]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  icases Htok' with ⟨Hf, Ht⟩
  unfold G; simp only [bigSep_sep']
  isplitl [Hst']; · iexact Hst'
  isplitl [Hat']; · iexact Hat'
  isplitl [Hr']; · iexact Hr'
  isplitl [Hf]; · iexact Hf
  iexact Ht

/-! ## The semaphores' counters become cells -/

theorem unscoped_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 69 => semVal (kcell (c, k)) 0 : sProp 𝕄) := by
  rw [unscoped_eq]
  unfold Pipeline.ownSems0
  refine .trans ?_ (Entails.of_eq (all_uses fun sm => semVal ((c : Thread nD τ), sm) 0).symm)
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 69 => iprop(∃ κ : ℕ, cellInv ER (rd m) κ (kcell (c, k))))
          ∗ (bigSep Finset.univ fun k : Fin 69 => atPos ER (kcell (c, k)) 0 ∅ 0) ∗ (bigSep Finset.univ fun k : Fin 69 => reached ER (kcell (c, k)) 0)
          ∗ (bigSep Finset.univ fun k : Fin 69 => dutyTok ER (kcell (c, k)) 0 false) ∗ dutyTok ER (barCell c) 0 true) := by
  unfold G
  iintro ⟨Hos, Hus, Hst, Hrest⟩
  ihave Hv := (sems0_eq (F := F) c) $$ [Hos Hus]
  · isplitl [Hos] <;> iassumption
  imod (show iprop((bigSep Finset.univ fun k : Fin 69 => semVal (kcell (c, k)) 0) ∗ bigSep Finset.univ fun k : Fin 69 => roundState ER (rd m) (kcell (c, k)) 0)
      ⊢ (|={Set.univ}=> bigSep Finset.univ fun k : Fin 69 => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  iexact Hrest

/-! ## The tokens dealt around the ring -/

/-- The tokens of the duties device `c` pays: its neighbours' barriers', its sends' and their arrivals', its copies'. -/
def pay (c : Dev nD) : sProp 𝕄 :=
  iprop(dutyTok ER (barCell (left c)) 0 false ∗ dutyTok ER (barCell (right c)) 0 true
    ∗ (bigSep Finset.univ fun t : Fin 16 => dutyTok ER (dmaCell c (rsS t)) 0 false)
    ∗ (bigSep Finset.univ fun t : Fin 16 => dutyTok ER (dmaCell (right c) (rrS t)) 0 false)
    ∗ (bigSep Finset.univ fun t : Fin 12 => dutyTok ER (dmaCell c (lsS t)) 0 false)
    ∗ (bigSep Finset.univ fun t : Fin 12 => dutyTok ER (dmaCell (left c) (lrS t)) 0 false)
    ∗ (bigSep Finset.univ fun i : Fin 7 => dutyTok ER (dmaCell c (cpS i)) 0 false)
    ∗ (bigSep Finset.univ fun p : Fin 4 => dutyTok ER (dmaCell c (spS p)) 0 false))

theorem around : iprop((bigSep Finset.univ fun c : Dev nD => bigSep Finset.univ fun k : Fin 69 => dutyTok ER (kcell (c, k)) 0 false)
    ∗ bigSep Finset.univ fun c : Dev nD => dutyTok ER (barCell c) 0 true) ⊢ (bigSep Finset.univ fun c : Dev nD => pay c : sProp 𝕄) := by
  have e (c : Dev nD) := (all_uses fun sm => (dutyTok ER ((c : Thread nD τ), sm) 0 false : sProp 𝕄)).trans
    (congrArg (fun X => iprop(_ ∗ X)) (own_uses fun sm => (dutyTok ER ((c : Thread nD τ), sm) 0 false : sProp 𝕄)))
  simp only [e]
  unfold pay
  simp only [bigSep_sep']
  rw [bigSep_univ_equiv ring.symm (fun c : Dev nD => (dutyTok ER (barCell c) 0 false : sProp 𝕄)),
    bigSep_univ_equiv ring (fun c : Dev nD => (dutyTok ER (barCell c) 0 true : sProp 𝕄)),
    bigSep_univ_equiv ring (fun c : Dev nD => (bigSep Finset.univ fun t : Fin 16 => dutyTok ER (dmaCell c (rrS t)) 0 false : sProp 𝕄)),
    bigSep_univ_equiv ring.symm (fun c : Dev nD => (bigSep Finset.univ fun t : Fin 12 => dutyTok ER (dmaCell c (lrS t)) 0 false : sProp 𝕄))]
  iintro ⟨⟨H1, H3, H4, H5, H6, H7, H8, -⟩, H2⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A device's share of the protocol as its kernel begins. -/
def G' (c : Dev nD) : sProp 𝕄 :=
  iprop(∃ K, records m K ∗ (bigSep Finset.univ fun k : Fin 69 => atPos ER (kcell (c, k)) 0 ∅ 0) ∗ pay c)

theorem regroup :
    (bigSep Finset.univ fun c : Dev nD => iprop((bigSep Finset.univ fun k : Fin 69 => iprop(∃ κ : ℕ, cellInv ER (rd m) κ (kcell (c, k))))
          ∗ (bigSep Finset.univ fun k : Fin 69 => atPos ER (kcell (c, k)) 0 ∅ 0) ∗ (bigSep Finset.univ fun k : Fin 69 => reached ER (kcell (c, k)) 0)
          ∗ (bigSep Finset.univ fun k : Fin 69 => dutyTok ER (kcell (c, k)) 0 false) ∗ dutyTok ER (barCell c) 0 true) : sProp 𝕄)
      ⊢ bigSep Finset.univ (G' m) := by
  rw [bigSep_sep', bigSep_sep', bigSep_sep', bigSep_sep', ← bigSep_univ_prod (fun ck : Dev nD × Fin 69 => iprop(∃ κ : ℕ, cellInv ER (rd m) κ (kcell ck))),
    ← bigSep_univ_prod (fun ck : Dev nD × Fin 69 => (reached ER (kcell ck) 0 : sProp 𝕄))]
  iintro ⟨HI, Hat, #HR, Htok⟩
  ihave HK := (BI.bigSep_exists_pi Finset.univ (fun (ck : Dev nD × Fin 69) (κ : ℕ) => (cellInv ER (rd m) κ (kcell ck) : sProp 𝕄))) $$ HI
  icases HK with ⟨%K, #HI⟩
  ihave Htk := (around (F := F)) $$ Htok
  have hk (c : Dev nD) : iprop(records m K ∗ ((bigSep Finset.univ fun k : Fin 69 => atPos ER (kcell (c, k)) 0 ∅ 0) ∗ pay c)) ⊢ G' m c := by
    unfold G'
    iintro H
    iexists K
    iexact H
  iapply (bigSep_with_persistent (R := records m K) fun c _ => hk c)
  isplitr
  · unfold records
    rw [bigSep_sep']
    isplitl; · iexact HI
    iexact HR
  · rw [bigSep_sep']
    isplitl [Hat]; · iexact Hat
    iexact Htk

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit a device starts with: what its neighbours owe it -/

abbrev O₀ (c : Dev nD) : CellTallies nD τ sig Unit := owed c 0 0 0

theorem cell_eq {c c' : Dev nD} {q q' : DmaSem sig} : dmaCell c q = dmaCell c' q' ↔ c = c' ∧ q = q' :=
  ⟨fun h => ⟨congrArg (fun g : GSem nD τ sig => g.1.1) h, SemLoc.dma.inj (congrArg Prod.snd h)⟩, fun h => h.1 ▸ h.2 ▸ rfl⟩
theorem bar_eq {c c' : Dev nD} : barCell c = barCell c' ↔ c = c' :=
  ⟨fun h => congrArg (fun g : GSem nD τ sig => g.1.1) h, fun h => h ▸ rfl⟩
theorem bar_ne {c c' : Dev nD} {q : DmaSem sig} : barCell c ≠ dmaCell c' q := fun h => nomatch congrArg Prod.snd h

theorem tally_dma (c c' : Dev nD) (q q' : DmaSem sig) (n : ℕ) :
    (tallyAt (dmaCell c q) () n : CellTallies nD τ sig Unit) (dmaCell c' q') () = if c' = c ∧ q' = q then n else 0 := by
  rw [tallyAt_apply]
  exact if_congr ⟨fun h => cell_eq.mp h.1, fun h => ⟨cell_eq.mpr h, rfl⟩⟩ rfl rfl
theorem tally_bar (c c' : Dev nD) (n : ℕ) :
    (tallyAt (barCell c) () n : CellTallies nD τ sig Unit) (barCell c') () = if c' = c then n else 0 := by
  rw [tallyAt_apply]
  exact if_congr ⟨fun h => bar_eq.mp h.1, fun h => ⟨bar_eq.mpr h, rfl⟩⟩ rfl rfl

theorem rr_injective (t u : Fin 16) (h : rrS t = rrS u) : t = u := by
  have := congrArg use h; rw [use_rr, use_rr] at this; exact Use.rr.inj this
theorem lr_injective (t u : Fin 12) (h : lrS t = lrS u) : t = u := by
  have := congrArg use h; rw [use_lr, use_lr] at this; exact Use.lr.inj this
theorem rr_ne_lr (t : Fin 16) (u : Fin 12) : rrS t ≠ lrS u := fun h => by
  have := congrArg use h; rw [use_rr, use_lr] at this; exact nomatch this

theorem owedR_other {c : Dev nD} {g : GSem nD τ sig} (h : ∀ t : Fin 16, g ≠ dmaCell (right c) (rrS t)) : owedR c 0 g () = 0 := by
  by_contra hn
  obtain ⟨t, -, ht⟩ := owedR_pos (Nat.pos_of_ne_zero hn)
  exact h t ht
theorem owedL_other {c : Dev nD} {g : GSem nD τ sig} (h : ∀ t : Fin 12, g ≠ dmaCell (left c) (lrS t)) : owedL c 0 g () = 0 := by
  by_contra hn
  obtain ⟨t, -, ht⟩ := owedL_pos (Nat.pos_of_ne_zero hn)
  exact h t ht
theorem owedB_other {c : Dev nD} {g : GSem nD τ sig} (h : ∀ d, g ≠ barCell d) : owedB c 0 g () = 0 := by
  by_contra hn
  obtain ⟨-, h1 | h1⟩ := owedB_pos (Nat.pos_of_ne_zero hn)
  · exact h _ h1
  · exact h _ h1

theorem owes_bar (d c : Dev nD) : O₀ d (barCell c) () = (if d = right c then 1 else 0) + (if d = left c then 1 else 0) := by
  unfold O₀ owed
  rw [Pi.add_apply, Finsupp.add_apply, Pi.add_apply, Finsupp.add_apply, owedR_other (fun _ => bar_ne), owedL_other (fun _ => bar_ne), Nat.zero_add]
  unfold owedB
  rw [if_pos (by decide), if_pos (by decide), Pi.add_apply, Finsupp.add_apply, tally_bar, tally_bar]
  congr 1
  · exact if_congr ⟨fun h => by rw [h, right_left], fun h => by rw [h, left_right]⟩ rfl rfl
  · exact if_congr ⟨fun h => by rw [h, left_right], fun h => by rw [h, right_left]⟩ rfl rfl

theorem owes_rr (d c : Dev nD) (t : Fin 16) : O₀ d (dmaCell c (rrS t)) () = if d = left c then N else 0 := by
  unfold O₀ owed
  rw [Pi.add_apply, Finsupp.add_apply, Pi.add_apply, Finsupp.add_apply, owedB_other (fun _ h => bar_ne h.symm),
    owedL_other (fun u h => rr_ne_lr t u (cell_eq.mp h).2), Nat.add_zero]
  unfold owedR
  rw [Finset.sum_apply, Finsupp.finset_sum_apply, Finset.sum_congr rfl fun u _ => by rw [if_pos (Nat.zero_le _), tally_dma],
    Finset.sum_eq_single_of_mem t (Finset.mem_univ _) fun u _ hu => if_neg fun h => hu (rr_injective _ _ h.2.symm)]
  exact if_congr ⟨fun h => by rw [h.1, left_right], fun h => ⟨by rw [h, right_left], rfl⟩⟩ rfl rfl

theorem owes_lr (d c : Dev nD) (t : Fin 12) : O₀ d (dmaCell c (lrS t)) () = if d = right c then N else 0 := by
  unfold O₀ owed
  rw [Pi.add_apply, Finsupp.add_apply, Pi.add_apply, Finsupp.add_apply, owedB_other (fun _ h => bar_ne h.symm),
    owedR_other (fun u h => rr_ne_lr u t (cell_eq.mp h).2.symm), Nat.zero_add, Nat.add_zero]
  unfold owedL
  rw [Finset.sum_apply, Finsupp.finset_sum_apply, Finset.sum_congr rfl fun u _ => by rw [if_pos (Nat.zero_le _), tally_dma],
    Finset.sum_eq_single_of_mem t (Finset.mem_univ _) fun u _ hu => if_neg fun h => hu (lr_injective _ _ h.2.symm)]
  exact if_congr ⟨fun h => by rw [h.1, right_left], fun h => ⟨by rw [h, left_right], rfl⟩⟩ rfl rfl

theorem launch_at (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]
theorem launch_bar (c : Dev nD) : tallyOn (barCell c) (launchCredit (Pipeline.owing O₀) 0 (barCell c)) = (tallyAt (barCell c) () 2 : CellTallies nD τ sig Unit) :=
  launch_at _ _ (by
    rw [Finset.sum_congr rfl fun d _ => owes_bar d c, Finset.sum_add_distrib, Finset.sum_ite_eq' Finset.univ (right c) fun _ => 1,
      Finset.sum_ite_eq' Finset.univ (left c) fun _ => 1, if_pos (Finset.mem_univ _), if_pos (Finset.mem_univ _)])
theorem launch_rr (c : Dev nD) (t : Fin 16) :
    tallyOn (dmaCell c (rrS t)) (launchCredit (Pipeline.owing O₀) 0 (dmaCell c (rrS t))) = (tallyAt (dmaCell c (rrS t)) () N : CellTallies nD τ sig Unit) :=
  launch_at _ _ (by
    rw [Finset.sum_congr rfl fun d _ => owes_rr d c t, Finset.sum_ite_eq' Finset.univ (left c) fun _ => N, if_pos (Finset.mem_univ _)])
theorem launch_lr (c : Dev nD) (t : Fin 12) :
    tallyOn (dmaCell c (lrS t)) (launchCredit (Pipeline.owing O₀) 0 (dmaCell c (lrS t))) = (tallyAt (dmaCell c (lrS t)) () N : CellTallies nD τ sig Unit) :=
  launch_at _ _ (by
    rw [Finset.sum_congr rfl fun d _ => owes_lr d c t, Finset.sum_ite_eq' Finset.univ (right c) fun _ => N, if_pos (Finset.mem_univ _)])

/-- The credits a device holds at the launch. -/
def creds (c : Dev nD) : sProp 𝕄 := iprop(cred (tallyAt (barCell c) () 2)
  ∗ (bigSep Finset.univ fun t : Fin 16 => cred (tallyAt (dmaCell c (rrS t)) () N)) ∗ bigSep Finset.univ fun t : Fin 12 => cred (tallyAt (dmaCell c (lrS t)) () N))

theorem creds_intro (c : Dev nD) : (Pipeline.launchCred O₀ c : sProp 𝕄) ⊢ creds c := by
  unfold Pipeline.launchCred creds
  refine (bigSep_subset (Finset.subset_univ (Finset.univ.map ⟨csem, csem_injective⟩))).trans ?_
  rw [bigSep_map]
  refine (Entails.of_eq ((all_uses fun sm => cred (tallyOn ((c : Thread nD τ), sm) (launchCredit (Pipeline.owing O₀) 0 ((c : Thread nD τ), sm)))).trans
    (congrArg (fun X => iprop(_ ∗ X)) (own_uses fun sm => cred (tallyOn ((c : Thread nD τ), sm) (launchCredit (Pipeline.owing O₀) 0 ((c : Thread nD τ), sm))))))).trans ?_
  rw [launch_bar]
  simp only [launch_rr, launch_lr]
  iintro ⟨H1, -, H2, -, H3, -⟩
  isplitl [H1]; · iexact H1
  isplitl [H2]; · iexact H2
  iexact H3

end Cert.Gather
end
-- ==== Proof.Launch.lean ====
/- The kernel's run: from the launch's resources through the body on every device to the claims' memory. -/
module

public import proofs.«01_k».proof.Proof.Body
public import proofs.«01_k».proof.Proof.Ghost
public import proofs.«01_k».proof.Proof.Gen.KernelIdeal.Points

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the kernel's one point -/

def aPts (c : Dev nD) : sProp 𝕄 := ((c : Thread nD τ).loc cc0_stg0_0) ↦{full} aA m c
def bPts (c : Dev nD) : sProp 𝕄 := ((c : Thread nD τ).loc cc0_stg1_0) ↦{full} bB m c

def start (c : Dev nD) : sProp 𝕄 := iprop(G' m c ∗ creds c ∗ levAts L lv ∗ resPts c (m ((c : Thread nD τ).loc main_v1)))
def scratch (c : Dev nD) : sProp 𝕄 := iprop(any0 c ∗ any1 c ∗ any2 c ∗ any3 c)
def Φ₀ (c : Dev nD) : sProp 𝕄 := iprop(start m c ∗ scratch c)
/-- What leaves the kernel beside the launch's buffers: the barrier's counter at zero and the result. -/
def leave (c : Dev nD) : sProp 𝕄 := iprop(unscopedSems0 c ∗ resPts c (oFin m c))
abbrev zeros (c : Dev nD) : sProp 𝕄 := Pipeline.ownSems0 (Ix := Unit) (Name := ℕ) (U := UU) (Lvl := ℕ) (Val := Elt F) (τ := τ) osem c
def Φ₁ (c : Dev nD) : sProp 𝕄 := iprop(leave m c ∗ zeros c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aA m c
    | ⟨1, _⟩ => bB m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem stg_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (aA m c) ∗ stg c cc0_stg1_0 (bB m c))

/-! ## Into the first state -/

theorem den_aStg (c : Dev nD) : den m c .aStg = aPts m c := rfl
theorem den_bStg (c : Dev nD) : den m c .bStg = bPts m c := rfl
theorem den_bRaw (c : Dev nD) : den m c .bRaw = any2 c := rfl
theorem den_barL (c : Dev nD) : den m c .barL = dutyTok ER (barCell (left c)) 0 false := rfl
theorem den_barR (c : Dev nD) : den m c .barR = dutyTok ER (barCell (right c)) 0 true := rfl
theorem den_barD (c : Dev nD) : den m c .barD = atPos ER (barCell c) 1 ∅ 0 := rfl
theorem den_cRaw0 (c : Dev nD) : den m c (.cRaw 0) = iprop(∃ f, cPts (F := F) c 0 f) := rfl

/-- The position at the semaphore nothing uses. -/
def spare (c : Dev nD) : sProp 𝕄 := atPos ER (dmaCell c lastS) 0 ∅ 0

theorem into (c : Dev nD) (K : Dev nD × Fin 69 → ℕ) (f : Vec F S12288x1536 .f32) :
    iprop((bigSep Finset.univ fun k : Fin 69 => atPos ER (kcell (c, k)) 0 ∅ 0) ∗ pay c ∗ creds c ∗ resPts c f ∗ scratch c ∗ aPts m c ∗ bPts m c)
      ⊢ iprop(H m c {} ∗ spare c) := by
  have e := (all_uses fun sm => (atPos ER ((c : Thread nD τ), sm) 0 ∅ 0 : sProp 𝕄)).trans
    (congrArg (fun X => iprop(_ ∗ X)) (own_uses fun sm => (atPos ER ((c : Thread nD τ), sm) 0 ∅ 0 : sProp 𝕄)))
  have ho : (bigSep Finset.univ fun i : Fin 7 => oPts c i f : sProp 𝕄) ⊢ bigSep Finset.univ fun i : Fin 7 => iprop(∃ f, oPts (F := F) c i f) :=
    bigSep_mono fun i _ => any_intro (fun f => (oPts c i f : sProp 𝕄)) f
  have hp : (bigSep Finset.univ fun p : Fin 4 => pPts c p f : sProp 𝕄) ⊢ bigSep Finset.univ fun p : Fin 4 => iprop(∃ f, pPts (F := F) c p f) :=
    bigSep_mono fun p _ => any_intro (fun f => (pPts c p f : sProp 𝕄)) f
  rw [H_first, e, res_pieces]
  unfold pay creds scratch spare
  iintro ⟨⟨PB, P1, P2, P3, P4, P5, P6, PS⟩, ⟨TL, TR, T1, T2, T3, T4, T5, T6⟩, ⟨CB, C1, C2⟩, ⟨O1, O2⟩, ⟨A0, A1, A2, A3⟩, HA, HB⟩
  ihave O1 := ho $$ O1
  ihave O2 := hp $$ O2
  ihave A0 := (cut_r m c) $$ A0
  ihave A1 := (cut_l m c) $$ A1
  ihave A3 := (cut_c m c) $$ A3
  isplitr [PS]
  · simp only [sepL_cons, sepL_one, fam]
    rw [den_barL, den_barR, den_bRaw, den_aStg, den_bStg]
    isplitl [TL TR PB CB A2 HA HB]
    · isplitl [TL]; · iexact TL
      isplitl [TR]; · iexact TR
      isplitl [PB CB]
      · simp only [den]
        isplitl [CB]; · iexact CB
        iexact PB
      isplitl [A2]; · iexact A2
      isplitl [HA]; · iexact HA
      iexact HB
    isplitl [T1 T2 P1]
    · simp only [den, bigSep_sep']
      isplitl [T1]; · iexact T1
      isplitl [T2]; · iexact T2
      iexact P1
    isplitl [T3 T4 P3]
    · simp only [den, bigSep_sep']
      isplitl [T3]; · iexact T3
      isplitl [T4]; · iexact T4
      iexact P3
    isplitl [C1 P2]
    · simp only [den, bigSep_sep']
      isplitl [C1]; · iexact C1
      iexact P2
    isplitl [C2 P4]
    · simp only [den, bigSep_sep']
      isplitl [C2]; · iexact C2
      iexact P4
    isplitl [T5 P5 O1]
    · simp only [den, bigSep_sep']
      isplitl [T5]; · iexact T5
      isplitl [P5]; · iexact P5
      iexact O1
    isplitl [T6 P6 O2]
    · simp only [den, bigSep_sep']
      isplitl [T6]; · iexact T6
      isplitl [P6]; · iexact P6
      iexact O2
    isplitl [A0]; · iexact A0
    isplitl [A1]; · iexact A1
    iexact A3
  · iexact PS

/-! ## Out of the last -/

theorem close_one (c : Dev nD) (K : Dev nD × Fin 69 → ℕ) (q : DmaSem sig) (h : 2 ≤ q.val) (R : ℕ) (hR : ∀ r, R ≤ r → (rd (F := F) m).duties (dmaCell c q) r = ∅) :
    iprop(records m K ∗ atPos ER (dmaCell c q) R ∅ 0) ⊢ |={Set.univ}=> (semVal (dmaCell c q) 0 : sProp 𝕄) := by
  obtain ⟨κ, hκ⟩ := inv_dma m K c q h
  iintro ⟨#Hr, Hat⟩
  ihave HI := hκ $$ Hr
  icases HI with ⟨#HI, -⟩
  iapply (Rounds.cell_close ER (rd m) (Set.mem_univ κ) (fun h => h) (R := R) hR)
  isplitr; · iexact HI
  iexact Hat

theorem close_bar (c : Dev nD) (K : Dev nD × Fin 69 → ℕ) :
    iprop(records m K ∗ atPos ER (barCell c) 1 ∅ 0) ⊢ |={Set.univ}=> (semVal (barCell c) 0 : sProp 𝕄) := by
  obtain ⟨κ, hκ⟩ := inv_bar m K c
  iintro ⟨#Hr, Hat⟩
  ihave HI := hκ $$ Hr
  icases HI with ⟨#HI, -⟩
  iapply (Rounds.cell_close ER (rd m) (Set.mem_univ κ) (fun h => h) (R := 1) (duties_later m (barCell c)))
  isplitr; · iexact HI
  iexact Hat

theorem close_many (c : Dev nD) (K : Dev nD × Fin 69 → ℕ) {n : ℕ} (e : Fin n → DmaSem sig) (he : ∀ i, 2 ≤ (e i).val) :
    iprop(records m K ∗ bigSep Finset.univ fun i => atPos ER (dmaCell c (e i)) 1 ∅ 0)
      ⊢ |={Set.univ}=> (bigSep Finset.univ fun i => semVal (dmaCell c (e i)) 0 : sProp 𝕄) :=
  (bigSep_with_persistent fun i _ => close_one m c K (e i) (he i) 1 (duties_later m _)).trans (bigSep_fupd _ _)

theorem spare_none (c : Dev nD) (r : ℕ) : (rd (F := F) m).duties (dmaCell c lastS) r = ∅ := by
  rcases Nat.eq_zero_or_pos r with h | h
  · subst h
    rw [duties_dma, show use lastS = .none from by decide]
    rfl
  · exact duties_later m _ r h

/-- From the last state: every counter at zero, the result whole, the buffers whole. -/
theorem out (c : Dev nD) (K : Dev nD × Fin 69 → ℕ) :
    iprop(records m K ∗ H m c sLast ∗ spare c) ⊢ |={Set.univ}=> iprop(Φ₁ m c ∗ aPts m c ∗ bPts m c) := by
  have ec : fam m c .cEnd = iprop((bigSep Finset.univ fun i : Fin 7 => atPos ER (dmaCell c (cpS i)) 1 ∅ 0) ∗ bigSep Finset.univ fun i : Fin 7 => oPts c i (oFin m c)) := by
    simp only [fam, den, bigSep_sep']
  have es : fam m c .sEnd = iprop((bigSep Finset.univ fun p : Fin 4 => atPos ER (dmaCell c (spS p)) 1 ∅ 0) ∗ bigSep Finset.univ fun p : Fin 4 => pPts c p (oFin m c)) := by
    simp only [fam, den, bigSep_sep']
  have hz := own_uses fun sm => (semVal ((c : Thread nD τ), sm) 0 : sProp 𝕄)
  have hb : den m c .bHold ⊢ any2 c := any_intro (fun f => (bbPts c f : sProp 𝕄)) (bb m c)
  rw [H_last, ec, es]
  simp only [sepL_cons, sepL_one]
  rw [den_barD, den_cRaw0, den_aStg, den_bStg]
  unfold Φ₁ leave zeros Pipeline.ownSems0 scratch
  rw [hz, unscoped_eq, res_pieces]
  unfold spare
  iintro ⟨#Hr, ⟨⟨B, B2, SA, SB, C0⟩, Z1, R1, Z3, R2, R3, R4, R5, Z2, Z4, ⟨Z5, O1⟩, ⟨Z6, O2⟩, C1⟩, Z7⟩
  imod (close_bar m c K) $$ [B] with B
  · isplitr; · iexact Hr
    iexact B
  imod (close_many m c K rsS (fun i => by show 2 ≤ 2 + i.val; omega)) $$ [Z1] with Z1
  · isplitr; · iexact Hr
    iexact Z1
  imod (close_many m c K rrS (fun i => by show 2 ≤ 18 + i.val; omega)) $$ [Z2] with Z2
  · isplitr; · iexact Hr
    iexact Z2
  imod (close_many m c K lsS (fun i => by show 2 ≤ 34 + i.val; omega)) $$ [Z3] with Z3
  · isplitr; · iexact Hr
    iexact Z3
  imod (close_many m c K lrS (fun i => by show 2 ≤ 46 + i.val; omega)) $$ [Z4] with Z4
  · isplitr; · iexact Hr
    iexact Z4
  imod (close_many m c K cpS (fun i => by show 2 ≤ 58 + i.val; omega)) $$ [Z5] with Z5
  · isplitr; · iexact Hr
    iexact Z5
  imod (close_many m c K spS (fun i => by show 2 ≤ 65 + i.val; omega)) $$ [Z6] with Z6
  · isplitr; · iexact Hr
    iexact Z6
  imod (close_one m c K lastS (by decide) 0 (fun r _ => spare_none m c r)) $$ [Z7] with Z7
  · isplitr; · iexact Hr
    iexact Z7
  ihave R := (back_rl m c) $$ [R1 R2 R3 R4 R5]
  · isplitl [R1]; · iexact R1
    isplitl [R2]; · iexact R2
    isplitl [R3]; · iexact R3
    isplitl [R4]; · iexact R4
    iexact R5
  icases R with ⟨A0, A1⟩
  ihave A3 := (join_c m c) $$ [C0 C1]
  · isplitl [C0]; · iexact C0
    iexact C1
  ihave A2 := hb $$ B2
  imodintro
  isplitr [SA SB]
  · isplitl [B O1 O2]
    · isplitl [B]; · iexact B
      isplitl [O1]; · iexact O1
      iexact O2
    isplitl [Z1 Z2 Z3 Z4 Z5 Z6 Z7]
    · isplitl [Z1]; · iexact Z1
      isplitl [Z2]; · iexact Z2
      isplitl [Z3]; · iexact Z3
      isplitl [Z4]; · iexact Z4
      isplitl [Z5]; · iexact Z5
      isplitl [Z6]; · iexact Z6
      iexact Z7
    isplitl [A0]; · iexact A0
    isplitl [A1]; · iexact A1
    isplitl [A2]; · iexact A2
    iexact A3
  isplitl [SA]; · iexact SA
  iexact SB

/-! ## The kernel's body, as the launch asks for it -/

theorem finish (c : Dev nD) (K : Dev nD × Fin 69 → ℕ) : iprop(spare c ∗ State m c K sLast) ⊢ |={Set.univ}=> bodyPost m ρ c := by
  unfold State Ow bodyPost Dat.owesAt Pipeline.owesWithin
  rw [show (dats m ρ 0 c).owed t0_0.succ = 0 from rfl, show owed c sLast.sg sLast.nr sLast.nl = 0 from owed_done c]
  iintro ⟨HS, Hr, -, ⟨%W, HO⟩, HH⟩
  imod (out m c K) $$ [HS Hr HH] with ⟨HP, HA, HB⟩
  · isplitl [Hr]; · iexact Hr
    isplitl [HH]; · iexact HH
    iexact HS
  imodintro
  isplitl [HP]; · iexact HP
  isplitl [HO]
  · iexists W
    isplitr; · ipureintro; exact fun _ _ => Or.inl trivial
    iexact HO
  isplitl [HA]
  · iexists _; isplitr; · (ipureintro; rfl)
    unfold aPts; iexact HA
  iexists _; isplitr; · (ipureintro; rfl)
  unfold bPts; iexact HB

theorem begin_ (c : Dev nD) : bodyPre m ρ c ⊢ iprop(∃ K, spare c ∗ State m c K {}) := by
  unfold bodyPre Φ₀ start G' State Ow Dat.owesAt Pipeline.owesWithin
  iintro ⟨⟨⟨⟨%K, Hr, Hat, Hpay⟩, Hcr, Hlev, Hres⟩, Hscr⟩, ⟨%W, -, HO⟩, ⟨%d0, %g0, %hg0, HA⟩, ⟨%d1, %g1, %hg1, HB⟩⟩
  have h0 : g0 = aA m c := by rw [hg0]; unfold Dat.before; rw [if_pos (fetch0_0 t0_0)]; rfl
  have h1 : g1 = bB m c := by rw [hg1]; unfold Dat.before; rw [if_pos (fetch0_1 t0_0)]; rfl
  subst h0 h1
  ihave HH := (into m c K _) $$ [Hat Hpay Hcr Hres Hscr HA HB]
  · isplitl [Hat]; · iexact Hat
    isplitl [Hpay]; · iexact Hpay
    isplitl [Hcr]; · iexact Hcr
    isplitl [Hres]; · iexact Hres
    isplitl [Hscr]; · iexact Hscr
    isplitl [HA]; · unfold aPts; iexact HA
    unfold bPts; iexact HB
  icases HH with ⟨HH, HS⟩
  iexists K
  isplitl [HS]; · iexact HS
  isplitl [Hr]; · iexact Hr
  isplitl [Hlev]; · iexact Hlev
  isplitl [HO]; · iexists W; iexact HO
  iexact HH

theorem around_body (c : Dev nD) {p : Prog (TpuEff nD τ sig (Elt F) Λ₀ .tc) PUnit} (hp : ∀ K, State m c K {} ⊢ Wp c p fun _ => State m c K sLast) :
    bodyPre m ρ c ⊢ Wp c p fun _ => bodyPost m ρ c := by
  refine (begin_ m ρ c).trans (exists_elim fun K => ?_)
  refine (sep_mono_right (hp K)).trans ?_
  exact (wp_frame_l _ _ _).trans ((wp_mono _ _ _ fun _ => finish m ρ c K).trans (wp_fupd _ _ _ _ _))

set_option maxRecDepth 20000 in
theorem body_obligation (c : Dev nD) : BodyObligation (dats (F := F) m ρ 0 c) (defs₀ (F := F)) 𝒱₀ () Set.univ := fun t => by
  rw [fin_N0 t]
  rw [bigSep_W0, bigSep_W0]
  simp only [stg_eq]
  show bodyPre m ρ c ⊢ Wp c (onBufs (cc0_body (F := F))) fun _ => bodyPost m ρ c
  exact around_body m ρ c fun K => whole_body m c fupd_intro

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show cfg0.spec = spec0 from rfl, unscopedRest0_eq]
  iintro ⟨Hres, Hlev, Hcr, -, HG⟩
  ihave Hc := (creds_intro (F := F) c) $$ Hcr
  imodintro
  unfold start resPts
  isplitl
  · isplitl [HG]; · iexact HG
    isplitl [Hc]; · iexact Hc
    isplitl [Hlev]; · iexact Hlev
    iexact Hres
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀ scratch any0 any1 any2 any3
  iintro ⟨Hs, -, Hr⟩
  isplitl [Hs]; · iexact Hs
  iexact Hr

theorem phi1_exit (c : Dev nD) :
    (dats m ρ 0 c).Φ (Fin.last cfg0.N) ⊢ iprop(leave m c ∗ Pipeline.ownSems0 osem c ∗ Pipeline.scopedRest cfg0.spec c) := by
  rw [show (dats m ρ 0 c).Φ (Fin.last cfg0.N) = Φ₁ m c from rfl, show cfg0.spec = spec0 from rfl, scopedRest0_eq]
  unfold Φ₁ scratch any0 any1 any2 any3
  exact .rfl

theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), SemLoc.dma (((cfgs 0).win w).sem s)) () = 0 := by fin_cases w <;> fin_cases s <;> rfl
    rcases t with ⟨_ | _, ht⟩
    · exact mayWait c _ 0 0 0 (Or.inl (by rw [h0]; decide)) (Or.inl (by rw [h0]; decide)) (Or.inl (by rw [h0]; decide))
    · exact (mayWait c _ 2 16 12 (Or.inr (by decide)) (Or.inr (by decide)) (Or.inr (by decide))).trans (Entails.of_eq (by rw [owed_done]; rfl))

/-! ## The run -/

def finalA (c : Dev nD) (w : Fin cfg0.W) : Buf (Elt F) ((cfg0.win w).arr.view.loc (c : Thread nD τ)) := (dats m ρ 0 c).arrAt w cfg0.N

theorem finalA_eq (c : Dev nD) (w : Fin cfg0.W) : finalA m ρ c w = m ((cfg0.win w).arr.view.loc (c : Thread nD τ)) :=
  (dats (F := F) m ρ 0 c).arrAt_in w (by fin_cases w <;> rfl) _

theorem read_back (c : Dev nD) (f : Vec F S12288x1536 .f32) (s' : Phys nD τ sig (Elt F)) :
    iprop(resPts c f ∗ SI s') ⊢ iprop(⌜s'.mem.mem ((c : Thread nD τ).loc main_v1) = f⌝ ∗ SI s') := by
  unfold resPts
  iintro ⟨Hr, HSI⟩
  ihave H := (persistent_entails_right (SI_pointsTo_agree (st := s') (ℓ := (c : Thread nD τ).loc main_v1) (I := Finset.univ) (q := fullShare) (f := f))) $$ [HSI Hr]
  · isplitl [HSI] <;> iassumption
  icases H with ⟨%h, HSI, -⟩
  isplitr; · ipureintro; exact funext fun i => h i (Finset.mem_univ i)
  iexact HSI

/-- What the run leaves on every device: its two arguments as they were, and the result. -/
def Ends (s : MemSt nD τ sig (Elt F)) : Prop := ∀ c : Dev nD,
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = oFin m c

set_option maxRecDepth 100000 in
/-- For any float values, from any memory with zero counters: every weakly fair execution on the eight devices ends, with
    the arguments kept, the result at `oFin` and every counter at zero. -/
theorem run_main : θ_run defs (onTc (τ := τ) (main (F := F))) (s₀ m ρ) (fun r => Ends m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := leave m) (Z := fun _ => iprop(emp))
    (hX := start_intro m ρ) (hin := phi0_intro m ρ) (hout := phi1_exit m ρ)
    (QY := fun c s => s.mem ((c : Thread nD τ).loc main_v1) = oFin m c
      ∧ ∀ sm : SemLoc sig, sm.isScoped .tc = false → s.sem ((c.tc : Thread nD τ), sm) = 0)
    (hY := fun c s' => by
      unfold leave
      iintro ⟨⟨Hu, Hr⟩, -, HSI⟩
      ihave H := (read_back c (oFin m c) s') $$ [Hr HSI]
      · isplitl [Hr] <;> iassumption
      icases H with ⟨%h, HSI⟩
      imod (Pipeline.unscopedSems0_read (X := unscopedSems0 c) (c := c) fupd_intro s') $$ [Hu HSI] with ⟨%h2, HSI⟩
      · isplitl [Hu] <;> iassumption
      imodintro
      isplitr; · ipureintro; exact ⟨h, h2⟩
      iexact HSI)
    (hQ := fun _ h hs => ⟨fun c => ⟨((h c).1 0).trans (finalA_eq m ρ c 0), ((h c).1 1).trans (finalA_eq m ρ c 1), (h c).2.2.1⟩,
      sem_eq_zero hs fun c => (h c).2.2.2⟩)

end Cert.Gather
end
-- ==== Proof.Value.lean ====
/- What the result is worth in exact arithmetic: every device's copy is the reference's product. -/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Pipeline.Value

@[expose] public section

noncomputable section

namespace Cert.Gather

open Cert.KernelIdeal Cert.KernelIdeal.Gen
open Idealize.ShloMosaic
open Idealize.ShloMosaic.TcCoe
open Idealize.ShloMosaic.ValueIdx

/-! ## Numbers -/

/-- The two clipping bounds. -/
theorem top_word : Ideal.ofBits .f32 0x42FE0000#32 = ((127 : ℝ) : EReal) := by
  simp [Ideal.ofBits, Ideal.ieee, -EReal.coe_mul]; norm_num
theorem bot_word : Ideal.ofBits .f32 0xC2FE0000#32 = ((-127 : ℝ) : EReal) := by
  simp [Ideal.ofBits, Ideal.ieee, -EReal.coe_mul]; norm_num

/-- An entry scaled, rounded to an integer and clipped to one signed byte. -/
def quant (x : EReal) : EReal :=
  min (Ideal.ofBits .f32 0x42FE0000#32) (max (Ideal.ofBits .f32 0xC2FE0000#32)
    (Ideal.liftRound Ideal.roundHalfEven (x * Ideal.ofBits .f32 0x41B8BA2F#32)))

/-- A clipped entry is an integer between the bounds. -/
theorem quant_int (x : EReal) : ∃ n : ℤ, -127 ≤ n ∧ n ≤ 127 ∧ quant x = (((n : ℤ) : ℝ) : EReal) := by
  unfold quant
  rw [top_word, bot_word]
  generalize x * Ideal.ofBits .f32 0x41B8BA2F#32 = y
  induction y with
  | bot => exact ⟨-127, by omega, by omega, by
      show min ((127 : ℝ) : EReal) (max ((-127 : ℝ) : EReal) ⊥) = _
      rw [max_eq_left bot_le, min_eq_right (EReal.coe_le_coe_iff.2 (by norm_num))]; norm_num⟩
  | top => exact ⟨127, by omega, by omega, by
      show min ((127 : ℝ) : EReal) (max ((-127 : ℝ) : EReal) ⊤) = _
      rw [max_eq_right le_top, min_eq_left le_top]; norm_num⟩
  | coe r => exact ⟨min 127 (max (-127) (Ideal.roundHalfEven r)), by omega, by omega, by
      show min ((127 : ℝ) : EReal) (max ((-127 : ℝ) : EReal) ((Ideal.roundHalfEven r : ℝ) : EReal)) = _
      rw [← EReal.coe_strictMono.monotone.map_max, ← EReal.coe_strictMono.monotone.map_min]; push_cast; rfl⟩

/-- So the byte it is stored in gives it back. -/
theorem quant_byte (x : EReal) : (((Ideal.fptosi 8 (quant x)).toInt : ℝ) : EReal) = quant x := by
  obtain ⟨n, h1, h2, hq⟩ := quant_int x
  rw [hq]
  have e : Ideal.toIntClamped (-(2 ^ (8 - 1) : Nat)) ((2 ^ (8 - 1) : Nat) - 1) (((n : ℤ) : ℝ) : EReal) = n := by
    show max _ (min _ (if (0 : ℝ) ≤ (n : ℝ) then ⌊(n : ℝ)⌋ else ⌈(n : ℝ)⌉)) = n
    rw [Int.floor_intCast, Int.ceil_intCast, ite_self]
    norm_num; omega
  have e' : (Ideal.fptosi 8 (((n : ℤ) : ℝ) : EReal)).toInt = n := by
    unfold Ideal.fptosi
    rw [e, BitVec.toInt_ofInt]
    exact Int.bmod_eq_of_le (by norm_num; omega) (by norm_num; omega)
  rw [e']

/-! ## The staged operands -/

variable (m : (ℓ : Loc nD τ sig) → Buf (Elt Ideal) ℓ)

/-- A device's staged rows are its argument's, entry by entry; so is its staged `B`. -/
theorem aA_apply (c : Dev nD) (i : S1536x768.Idx) : aA m c i = m ((c : Thread nD τ).loc main_arg0) i :=
  congrArg (m ((c : Thread nD τ).loc main_arg0)) (by
    funext a; apply Fin.ext
    match a with
    | ⟨0, _⟩ => exact win0_0.rect_emb_val_of_index_zero (0 : Fin 1) (0 : Fin 2) rfl i
    | ⟨1, _⟩ => exact win0_0.rect_emb_val_of_index_zero (0 : Fin 1) (1 : Fin 2) rfl i)
theorem bB_apply (c : Dev nD) (i : S768x1536.Idx) : bB m c i = m ((c : Thread nD τ).loc main_arg1) i :=
  congrArg (m ((c : Thread nD τ).loc main_arg1)) (by
    funext a; apply Fin.ext
    match a with
    | ⟨0, _⟩ => exact win0_1.rect_emb_val_of_index_zero (0 : Fin 1) (0 : Fin 2) rfl i
    | ⟨1, _⟩ => exact win0_1.rect_emb_val_of_index_zero (0 : Fin 1) (1 : Fin 2) rfl i)

theorem aRows_apply (c : Dev nD) (j : Fin 4) (r : Fin 384) (k : Fin 768) :
    aRows m c j (ix2 r k) = m ((c : Thread nD τ).loc main_arg0) (ix2 (⟨384 * j.val + r.val, by omega⟩ : Fin 1536) k) := by
  refine Eq.trans ?_ (aA_apply m c _)
  refine congrArg (aA m c) ?_
  funext a; apply Fin.ext
  match a with
  | ⟨0, _⟩ => show 384 * j.val + 1 * r.val = 384 * j.val + r.val; omega
  | ⟨1, _⟩ => show 0 + 1 * k.val = k.val; omega

/-! ## The kernel's arithmetic at an entry -/

/-- A matrix seen as a stack of one, and a stack of one seen as a matrix, at an entry. -/
theorem stack_apply {α : Type} {p q : ℕ} (v : (⟨2, ![p, q]⟩ : Shape).Idx → α) (h : (⟨2, ![p, q]⟩ : Shape).ShapeCasts ⟨3, ![1, p, q]⟩)
    (r : Fin p) (k : Fin q) : shapeCast ⟨3, ![1, p, q]⟩ v h (ix3 (0 : Fin 1) r k) = v (ix2 r k) :=
  (shapeCast_addUnit_apply (n := 2) ![p, q] v h _).trans (congrArg v (by
    funext a; match a with | ⟨0, _⟩ => rfl | ⟨1, _⟩ => rfl))
theorem unstack_apply {α : Type} {p q : ℕ} (v : (⟨3, ![1, p, q]⟩ : Shape).Idx → α) (h : (⟨3, ![1, p, q]⟩ : Shape).ShapeCasts ⟨2, ![p, q]⟩)
    (r : Fin p) (k : Fin q) : shapeCast ⟨2, ![p, q]⟩ v h (ix2 r k) = v (ix3 (0 : Fin 1) r k) :=
  (shapeCast_dropUnit_apply (n := 2) ![p, q] v h _).trans (congrArg v (by
    funext a; match a with | ⟨0, _⟩ => rfl | ⟨1, _⟩ => rfl | ⟨2, _⟩ => rfl))

/-- A quantised entry is the byte of the clipped value. -/
theorem qz_apply (v : Vec Ideal S384x768 .f32) (r : Fin 384) (k : Fin 768) :
    qz v (ix3 (0 : Fin 1) r k) = Ideal.fptosi 8 (quant (v (ix2 r k))) := by
  unfold qz k0_pay8
  refine (stack_apply _ _ r k).trans ?_
  rw [shapeCast_self]
  rfl

/-- The scaled `B` at an entry. -/
theorem bb_apply (c : Dev nD) (k : Fin 768) (y : Fin 1536) :
    bb m c (ix2 k y) = (show EReal from m ((c : Thread nD τ).loc main_arg1) (ix2 k y)) * Ideal.ofBits .f32 0x3D3162C6#32 := by
  unfold bb k0_pay9
  rw [shapeCast_self, shapeCast_self]
  exact congrArg (fun t : EReal => t * Ideal.ofBits .f32 0x3D3162C6#32) (bB_apply m c (ix2 k y))

/-- A product of stored bytes with the scaled `B`, at an entry: the full block's and a quarter's. -/
theorem dotF_apply (q : Vec Ideal S1x1536x768 .i8) (w : Vec Ideal S768x1536 .bf16) (r : Fin 1536) (y : Fin 1536) :
    dotF q w (ix3 (0 : Fin 1) r y) = ∑ k : Fin 768, (((q (ix3 (0 : Fin 1) r k)).toInt : ℝ) : EReal) * w (ix2 k y) := by
  unfold dotF k0_pay10
  refine (stack_apply _ _ r y).trans ?_
  refine (Ideal.matmul_plain_apply none _ w _ r y).trans ?_
  rw [show constant (F := Ideal) S1536x1536 .f32 0x00000000#32 (ix2 r y) = 0 from Ideal.ofBits_zero_f32, zero_add]
  refine Finset.sum_congr rfl fun k _ => congrArg (· * w (ix2 k y)) ?_
  exact congrArg (fun b : BitVec 8 => ((b.toInt : ℝ) : EReal)) (unstack_apply q _ r k)

theorem dotS_apply (q : Vec Ideal S1x384x768 .i8) (w : Vec Ideal S768x1536 .bf16) (r : Fin 384) (y : Fin 1536) :
    dotS q w (ix3 (0 : Fin 1) r y) = ∑ k : Fin 768, (((q (ix3 (0 : Fin 1) r k)).toInt : ℝ) : EReal) * w (ix2 k y) := by
  unfold dotS k0_pay18
  refine (stack_apply _ _ r y).trans ?_
  refine (Ideal.matmul_plain_apply none _ w _ r y).trans ?_
  rw [show constant (F := Ideal) S384x1536 .f32 0x00000000#32 (ix2 r y) = 0 from Ideal.ofBits_zero_f32, zero_add]
  refine Finset.sum_congr rfl fun k _ => congrArg (· * w (ix2 k y)) ?_
  exact congrArg (fun b : BitVec 8 => ((b.toInt : ℝ) : EReal)) (unstack_apply q _ r k)

/-! ## The whole result -/

/-- What the reference computes from the whole `A` and from `B`. -/
def product (A : Vec Ideal ⟨2, ![12288, 768]⟩ .f32) (B : Vec Ideal S768x1536 .f32) : Vec Ideal S12288x1536 .f32 := fun x =>
  ∑ k : Fin 768, quant (A (ix2 (x 0) k)) * Ideal.ofBits .f32 0x3D3162C6#32 * B (ix2 k (x 1))

/-- The devices' arguments are the whole `A` cut in blocks of rows, and `B` on each. -/
def Cut (A : Vec Ideal ⟨2, ![12288, 768]⟩ .f32) (B : Vec Ideal S768x1536 .f32) : Prop :=
  (∀ (c : Dev nD) (r : Fin 1536) (k : Fin 768), m ((c : Thread nD τ).loc main_arg0) (ix2 r k)
      = A (ix2 (⟨1536 * c.val + r.val, by have h : c.val < 8 := c.isLt; omega⟩ : Fin 12288) k))
    ∧ ∀ c : Dev nD, m ((c : Thread nD τ).loc main_arg1) = B

variable {m}

/-- A device's stored byte at a row stands for the clipped entry of the whole `A`. -/
theorem qAt_val {A B} (h : Cut m A B) (o : Dev nD) (j : Fin 4) (r : Fin 384) (k : Fin 768) (R : Fin 12288)
    (hR : R.val = 1536 * o.val + (384 * j.val + r.val)) :
    (((qz (aRows m o j) (ix3 (0 : Fin 1) r k)).toInt : ℝ) : EReal) = quant (A (ix2 R k)) := by
  rw [qz_apply, quant_byte, aRows_apply, h.1]
  exact congrArg (fun R => quant (A (ix2 R k))) (Fin.ext hR.symm)

/-- One term of the two sums: the scale moves from the one factor to the other. -/
theorem term_eq {A B} (h : Cut m A B) (c : Dev nD) (q : EReal) (k : Fin 768) (y : Fin 1536) :
    q * bb m c (ix2 k y) = q * Ideal.ofBits .f32 0x3D3162C6#32 * B (ix2 k y) := by
  rw [bb_apply, h.2, mul_comm (B _), mul_assoc]

theorem oFin_eq {A B} (h : Cut m A B) (c : Dev nD) : oFin m c = product A B := by
  funext x
  have hx : (x 0).val < 12288 := (x 0).isLt
  unfold oFin product
  split
  · rename_i ho
    refine (dotS_apply _ _ _ _).trans ?_
    refine Finset.sum_congr rfl fun k _ => ?_
    refine Eq.trans ?_ (term_eq h c _ k (x 1))
    exact congrArg (· * _) (qAt_val h (opp c) _ _ k (x 0) (by show (x 0).val = _ + (384 * ((x 0).val % 1536 / 384) + (x 0).val % 1536 % 384); omega))
  · refine (dotF_apply _ _ _ _).trans ?_
    refine Finset.sum_congr rfl fun k _ => ?_
    refine Eq.trans ?_ (term_eq h c _ k (x 1))
    exact congrArg (· * _) (qAt_val h _ ⟨(x 0).val % 1536 / 384, by omega⟩ ⟨(x 0).val % 1536 % 384, by omega⟩ k (x 0)
      (by show (x 0).val = 1536 * ((x 0).val / 1536) + (384 * ((x 0).val % 1536 / 384) + (x 0).val % 1536 % 384); omega))

/-! ## The reference's result -/

/-- One number at every entry of the whole `A`. -/
abbrev splat (w : BitVec 32) : FVec Ideal Cert.ReferenceIdeal.S12288x768 .f32 :=
  broadcastInDim Cert.ReferenceIdeal.S12288x768 ![] Cert.ReferenceIdeal.Gen.bcast_S_S12288x768 (constant Cert.ReferenceIdeal.S_ .f32 w)

/-- What the reference's operations leave is the same product. -/
theorem reference_eq (A : FVec Ideal Cert.ReferenceIdeal.S12288x768 .f32) (B : FVec Ideal Cert.ReferenceIdeal.S768x1536 .f32) :
    Host.dotGeneral Cert.ReferenceIdeal.dot_S12288x768_S768x1536_S12288x1536_1_0_0_1_n_n none
      (mulf (minimumf (splat 0x42FE0000#32) (maximumf (splat 0xC2FE0000#32) (Host.roundeven (mulf A (splat 0x41B8BA2F#32)))))
        (splat 0x3D3162C6#32)) B
      = product A B := by
  funext x
  rw [eq_ix2 x]
  exact (StackMember.dotGeneral_plain_apply none _ B (x 0) (x 1)).trans (Finset.sum_congr rfl fun k _ => rfl)

/-- The whole `A` in blocks of rows, as the claim lays it over the devices. -/
theorem cut_of_block {A : Vec Ideal ⟨2, ![12288, 768]⟩ .f32} {B : Vec Ideal S768x1536 .f32}
    (h : ∀ c : Dev nD, m ((c : Thread nD τ).loc main_arg0) = Layout.block ⟨2, ![1536, 768]⟩ ⟨2, ![12288, 768]⟩ 0 8 c A
      ∧ m ((c : Thread nD τ).loc main_arg1) = B) : Cut m A B := by
  refine ⟨fun c r k => ?_, fun c => (h c).2⟩
  rw [(h c).1]
  refine congrArg A (funext fun a => Fin.ext ?_)
  match a with
  | ⟨0, _⟩ => show c.val * 1536 + r.val = 1536 * c.val + r.val; omega
  | ⟨1, _⟩ => rfl

end Cert.Gather

end
-- ==== Proof.lean ====
/- The claims, put together: one run of the program for any float values gives both programs' frames and the result. -/
module

public import proofs.«01_k».proof.Defs
public import proofs.«01_k».proof.Proof.Launch
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The two programs' texts are one; only the table of bodies has to be looked at entry by entry. -/
theorem bodies_eq : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | ⟨0, _⟩, (t, s) => rfl
theorem defs_eq : Cert.Kernel.defs (F := Bits) = Cert.KernelIdeal.defs (F := Bits) := congrArg (Pipeline.defs Cert.KernelIdeal.pcfgs) bodies_eq

theorem frame_kernel : Cert.quiescent_Kernel := fun m ρ _ => by
  rw [defs_eq]
  exact (θ_run Cert.KernelIdeal.defs _ _).mono (fun _ h => ⟨fun c => ⟨(h.1 c).1, (h.1 c).2.1⟩, h.2⟩) (Cert.Gather.run_main (F := Bits) m ρ)

theorem frame_ideal : Cert.quiescent_KernelIdeal := fun m ρ _ =>
  (θ_run Cert.KernelIdeal.defs _ _).mono (fun _ h => ⟨fun c => ⟨(h.1 c).1, (h.1 c).2.1⟩, h.2⟩) (Cert.Gather.run_main (F := Ideal) m ρ)

theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩) (Cert.ReferenceIdeal.Value.run (F := Ideal) m ρ)

/-- Every device's result is the product of the whole quantised `A` with `B`, and so is the reference's. -/
theorem algebraic : Cert.algebraic_KernelIdeal_ReferenceIdeal := fun m g m' g' _ hagree =>
  ⟨Cert.Gather.product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (Cert.Gather.oFin_eq (Cert.Gather.cut_of_block hagree) c), (h.1 c).1, (h.1 c).2.1⟩)
      (Cert.Gather.run_main (F := Ideal) m g),
    (θ_run Cert.ReferenceIdeal.defs _ _).mono
      (fun _ h => ⟨(h 0).1.trans (Cert.Gather.reference_eq _ _), (h 0).2.1, (h 0).2.2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
